-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![2048, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .bf16) (main_arg1 : FVec F S256x16 .bf16) (main_arg2 : IVec S512x2 32) (main_arg3 : FVec F S4x256x512 .bf16) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .bf16 := Host.absf main_arg0
  let main_cst : FVec F S_ .bf16 := constant S_ .bf16 0x7F80#16
  let main_v7 : FVec F S512x256 .bf16 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : IVec S_ 1 := andi main_v5 main_v9
  let main_v11 : FVec F S256x16 .bf16 := Host.absf main_arg1
  let main_cst_3 : FVec F S_ .bf16 := constant S_ .bf16 0x7F80#16
  let main_v12 : FVec F S256x16 .bf16 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Pre_routed_ReferenceIdeal.lean ====
abbrev S2048x256 : Shape := ⟨2, ![2048, 256]⟩
abbrev S256x16 : Shape := ⟨2, ![256, 16]⟩
abbrev S2048x2 : Shape := ⟨2, ![2048, 2]⟩
abbrev S16x256x512 : Shape := ⟨3, ![16, 256, 512]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S2048x256 .bf16) (main_arg1 : FVec F S256x16 .bf16) (main_arg2 : IVec S2048x2 32) (main_arg3 : FVec F S16x256x512 .bf16) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 16#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x256 .bf16 := Host.absf main_arg0
  let main_cst : FVec F S_ .bf16 := constant S_ .bf16 0x7F80#16
  let main_v7 : FVec F S2048x256 .bf16 := broadcastInDim S2048x256 ![] bcast_S_S2048x256 main_cst
  let main_v8 : IVec S2048x256 1 := cmpf .olt main_v6 main_v7
  let main_c_2 : IVec S_ 1 := constantI S_ 1 1#1
  let main_v9 : IVec S_ 1 := (fun x v => Host.reduce IntOp.andi x v reducesTo_S2048x256_S_d0_1 h_S_) main_v8 main_c_2
  let main_v10 : IVec S_ 1 := andi main_v5 main_v9
  let main_v11 : FVec F S256x16 .bf16 := Host.absf main_arg1
  let main_cst_3 : FVec F S_ .bf16 := constant S_ .bf16 0x7F80#16
  let main_v12 : FVec F S256x16 .bf16 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Kernel.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S512x512 : Shape := ⟨2, ![512, 512]⟩
abbrev S4x2x256x512 : Shape := ⟨4, ![4, 2, 256, 512]⟩
abbrev S3 : Shape := ⟨1, ![3]⟩
abbrev S2x256x512 : Shape := ⟨3, ![2, 256, 512]⟩
abbrev S1x2x256x512 : Shape := ⟨4, ![1, 2, 256, 512]⟩
abbrev S_ : Shape := ⟨0, ![]⟩
abbrev S512x16 : Shape := ⟨2, ![512, 16]⟩
abbrev S512x1 : Shape := ⟨2, ![512, 1]⟩
abbrev S512 : Shape := ⟨1, ![512]⟩
abbrev S1 : Shape := ⟨1, ![1]⟩
abbrev S1x1x256x512 : Shape := ⟨4, ![1, 1, 256, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x2, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S256x16, .bf16⟩
  | .local _ .vmem, ⟨2, _⟩ => ⟨S512x2, .i32⟩
  | .local _ .vmem, ⟨3, _⟩ => ⟨S4x256x512, .bf16⟩
  | .local _ .vmem, ⟨4, _⟩ => ⟨S512x512, .f32⟩
  | .local _ .vmem, ⟨5, _⟩ => ⟨S4x2x256x512, .bf16⟩
  | .local _ .vmem, ⟨6, _⟩ => ⟨S4x2x256x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_16 : BitVec 32 := 1#32
  let v18 : BitVec 32 := Scalar.muli v4 c1_i32_16
  let v19 : BitVec 32 := Scalar.addi c0_i32 v18
  v19.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_18 : BitVec 32 := 1#32
  let v20 : BitVec 32 := Scalar.muli v6 c1_i32_18
  let v21 : BitVec 32 := Scalar.addi c0_i32_19 v20
  v21.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_38 : BitVec 32 := 1#32
  let v64 : BitVec 32 := Scalar.muli v6 c1_i32_38
  let v65 : BitVec 32 := Scalar.addi c0_i32_39 v64
  v65.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_50 : BitVec 32 := 1#32
  let v74 : BitVec 32 := Scalar.muli v4 c1_i32_50
  let v75 : BitVec 32 := Scalar.addi c0_i32_51 v74
  v75.toNat
def k0_dev5 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_130 : BitVec 32 := 1#32
  let v164 : BitVec 32 := Scalar.muli v6 c1_i32_130
  let v165 : BitVec 32 := Scalar.addi c0_i32_131 v164
  v165.toNat
def k0_dev6 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_142 : BitVec 32 := 1#32
  let v174 : BitVec 32 := Scalar.muli v4 c1_i32_142
  let v175 : BitVec 32 := Scalar.addi c0_i32_143 v174
  v175.toNat
def k0_dev7 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_222 : BitVec 32 := 1#32
  let v264 : BitVec 32 := Scalar.muli v6 c1_i32_222
  let v265 : BitVec 32 := Scalar.addi c0_i32_223 v264
  v265.toNat
def k0_dev8 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_234 : BitVec 32 := 1#32
  let v274 : BitVec 32 := Scalar.muli v4 c1_i32_234
  let v275 : BitVec 32 := Scalar.addi c0_i32_235 v274
  v275.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x256 : Shape := ⟨2, ![2048, 256]⟩
abbrev S256x16 : Shape := ⟨2, ![256, 16]⟩
abbrev S2048x2 : Shape := ⟨2, ![2048, 2]⟩
abbrev S16x256x512 : Shape := ⟨3, ![16, 256, 512]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x256x512 : Shape := ⟨3, ![2048, 256, 512]⟩
abbrev S2048x512 : Shape := ⟨2, ![2048, 512]⟩

abbrev nBuf : Space → Nat
  | .hbm => 90
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x16, .bf16⟩
  | .hbm, ⟨2, _⟩ => ⟨S2048x2, .i32⟩
  | .hbm, ⟨3, _⟩ => ⟨S16x256x512, .bf16⟩
  | .hbm, ⟨4, _⟩ => ⟨S2048x256, .f32⟩
  | .hbm, ⟨5, _⟩ => ⟨S256x16, .f32⟩
  | .hbm, ⟨6, _⟩ => ⟨S16x256x512, .f32⟩
  | .hbm, ⟨7, _⟩ => ⟨S2048x16, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x16, .f32⟩
  | .hbm, ⟨18, _⟩ => ⟨S2048x16, .f32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x1, .i32⟩
  | .hbm, ⟨40, _⟩ => ⟨S2048x2, .i32⟩
  | .hbm, ⟨41, _⟩ => ⟨S2048, .f32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048x1, .i32⟩
  | .hbm, ⟨57, _⟩ => ⟨S2048x1, .i32⟩
  | .hbm, ⟨58, _⟩ => ⟨S2048x2, .i32⟩
  | .hbm, ⟨59, _⟩ => ⟨S2048, .f32⟩
  | .hbm, ⟨60, _⟩ => ⟨S2048, .f32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048x1, .i32⟩
  | .hbm, ⟨69, _⟩ => ⟨S2048x256x512, .f32⟩
  | .hbm, ⟨70, _⟩ => ⟨S2048x512, .f32⟩
  | .hbm, ⟨71, _⟩ => ⟨S_, .i32⟩
  | .hbm, ⟨72, _⟩ => ⟨S2048, .i32⟩
  | .hbm, ⟨73, _⟩ => ⟨S2048, .i1⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S2048, .i32⟩
  | .hbm, ⟨78, _⟩ => ⟨S2048x1, .i32⟩
  | .hbm, ⟨79, _⟩ => ⟨S2048x256x512, .f32⟩
  | .hbm, ⟨80, _⟩ => ⟨S2048x512, .f32⟩
  | .hbm, ⟨81, _⟩ => ⟨S2048, .f32⟩
  | .hbm, ⟨82, _⟩ => ⟨S2048x1, .f32⟩
  | .hbm, ⟨83, _⟩ => ⟨S2048x512, .f32⟩
  | .hbm, ⟨84, _⟩ => ⟨S2048x512, .f32⟩
  | .hbm, ⟨85, _⟩ => ⟨S2048, .f32⟩
  | .hbm, ⟨86, _⟩ => ⟨S2048x1, .f32⟩
  | .hbm, ⟨87, _⟩ => ⟨S2048x512, .f32⟩
  | .hbm, ⟨88, _⟩ => ⟨S2048x512, .f32⟩
  | .hbm, ⟨89, _⟩ => ⟨S2048x512, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Slots.lean ====
/-
The two scratch buffers each device keeps its experts in, slot by slot.

Each scratch buffer has four slots of two experts' weights. Direction `false` is the buffer whose slots travel to the
next device of the ring, direction `true` the buffer whose slots travel to the previous one. After the copies, slot `s`
of device `c`'s buffer holds two of the experts of the device `s` hops upstream; `held` states that for a whole buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own, and the ring's with duties named by direction. -/
abbrev UU : Type := UR sig nD τ × URounds (GSem nD τ sig) Bool

local notation "𝕄" => MT nD τ sig Unit (Elt F) ℕ UU ℕ

/-! ## The ring -/

set_option backward.proofsInPublic true in
/-- The device `s` places after `c`. -/
def fwd (c : Dev nD) (s : ℕ) : Dev nD := ⟨(c.val + s) % 4, Nat.mod_lt _ (by decide)⟩

abbrev nxt (c : Dev nD) : Dev nD := fwd c 1
abbrev prv (c : Dev nD) : Dev nD := fwd c 3

/-- The device a slot of direction `d` travels to. -/
abbrev nb (d : Bool) (c : Dev nD) : Dev nD := if d then prv c else nxt c

/-- The device whose experts slot `s` of direction `d` holds on device `c`. -/
def origin (d : Bool) (c : Dev nD) (s : ℕ) : Dev nD := if d then fwd c s else fwd c (3 * s)

theorem nxt_prv (c : Dev nD) : nxt (prv c) = c := by revert c; decide
theorem prv_nxt (c : Dev nD) : prv (nxt c) = c := by revert c; decide
theorem nb_nb (d : Bool) (c : Dev nD) : nb d (nb (!d) c) = c := by revert c d; decide
theorem origin_zero (d : Bool) (c : Dev nD) : origin d c 0 = c := by revert c d; decide
/-- One hop moves a slot's origin with it. -/
theorem origin_nb (d : Bool) (c : Dev nD) (h : Fin 3) : origin d (nb d c) h.succ.val = origin d c h.castSucc.val := by
  revert c d h; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nb false c := Fin.ext (k0_dev3_eq c)
theorem dev4_eq (c : Dev nD) : (⟨k0_dev4 c, k0_dev4_lt c⟩ : Dev nD) = nb true c := Fin.ext (k0_dev4_eq c)
theorem dev5_eq (c : Dev nD) : (⟨k0_dev5 c, k0_dev5_lt c⟩ : Dev nD) = nb false c := Fin.ext (k0_dev5_eq c)
theorem dev6_eq (c : Dev nD) : (⟨k0_dev6 c, k0_dev6_lt c⟩ : Dev nD) = nb true c := Fin.ext (k0_dev6_eq c)
theorem dev7_eq (c : Dev nD) : (⟨k0_dev7 c, k0_dev7_lt c⟩ : Dev nD) = nb false c := Fin.ext (k0_dev7_eq c)
theorem dev8_eq (c : Dev nD) : (⟨k0_dev8 c, k0_dev8_lt c⟩ : Dev nD) = nb true c := Fin.ext (k0_dev8_eq c)

/-! ## The slots -/

/-- The scratch buffer of a direction. -/
abbrev bufM (d : Bool) : Memref sig .tc .vmem S4x2x256x512 .bf16 :=
  match d with | false => Memref.whole cc0_scratch0 | true => Memref.whole cc0_scratch1

theorem slot_inb (s : Fin 4) : ∀ a, (![s.val, 0, 0, 0] : Fin 4 → ℕ) a + S1x2x256x512.size a ≤ S4x2x256x512.size a := by
  revert s; decide

abbrev slotRect (s : Fin 4) : Rect S4x2x256x512 := Rect.unit (s := S4x2x256x512) ![s.val, 0, 0, 0] S1x2x256x512.size (slot_inb s)

/-- Slot `s`, as a copy names it. -/
abbrev slotM (d : Bool) (s : Fin 4) : Memref sig .tc .vmem S2x256x512 .bf16 :=
  ((bufM d).slice (slotRect s) (fun _ => rfl)).squeeze S2x256x512 squeezes_S1x2x256x512_S2x256x512

theorem mem_slotRect (s : Fin 4) (i : S4x2x256x512.Idx) : i ∈ (slotRect s).set ↔ (i 0).val = s.val := by
  rw [Rect.mem_set_unit]
  constructor
  · intro h; have := h 0; simp at this; omega
  · intro h a
    have h0 := (i 0).isLt; have h1 := (i 1).isLt; have h2 := (i 2).isLt; have h3 := (i 3).isLt
    fin_cases a <;> simp at * <;> omega

theorem slot_set (d : Bool) (s : Fin 4) : (slotM d s).view.set = match d with
    | false => (slotRect s).set | true => (slotRect s).set := by
  cases d
  · exact (View.set_reshape _ _).trans (View.set_slice_whole _ _)
  · exact (View.set_reshape _ _).trans (View.set_slice_whole _ _)

/-! ## Contents -/

/-- The expert weights of every device, as its staging buffer holds them. -/
abbrev Wts (F : FTy → Type) : Type := Dev nD → S4x256x512.Idx → Elt F .bf16

/-- The four slots of device `c` in direction `d`, as an array: slot `s` holds experts `0, 1` (direction `false`) or
    `2, 3` (direction `true`) of the slot's origin. -/
def heldV (X : Wts F) (d : Bool) (c : Dev nD) (i : S4x2x256x512.Idx) : Elt F .bf16 :=
  X (origin d c (i 0).val) (ix3 (⟨(if d then 2 else 0) + (i 1).val, by have := (i 1).isLt; simp at this; cases d <;> simp <;> omega⟩ : Fin 4) (i 2 : Fin 256) (i 3 : Fin 512))

def held (X : Wts F) (d : Bool) (c : Dev nD) : Buf (Elt F) ((bufM d).view.loc (c : Thread nD τ)) :=
  match d with | false => heldV X false c | true => heldV X true c

/-- Slot `s` of device `c` at its final contents, at share `q`. -/
def slotPts (X : Wts F) (d : Bool) (c : Dev nD) (s : Fin 4) (q : PosShare TreeShare) : sProp 𝕄 :=
  (slotM d s).view.loc (c : Thread nD τ) ↦[(slotM d s).view.set]{q} held X d c

/-- Slot `s` of device `c` at some contents. -/
def slotAny (d : Bool) (c : Dev nD) (s : Fin 4) : sProp 𝕄 :=
  iprop(∃ f : Buf (Elt F) ((slotM d s).view.loc (c : Thread nD τ)), (slotM d s).view.loc (c : Thread nD τ) ↦[(slotM d s).view.set]{fullShare} f)

instance slotPts_storable (X : Wts F) (d c s q) : BI.Storable (upEmb : UEmb _ 𝕄) (slotPts X d c s q) := by unfold slotPts; infer_instance
instance slotAny_storable (d c s) : BI.Storable (upEmb : UEmb _ 𝕄) (slotAny (F := F) d c s) := by unfold slotAny; infer_instance

theorem heldV_at (X : Wts F) (d : Bool) (c : Dev nD) (s : Fin 4) (k : Fin 2) (x : Fin 256) (y : Fin 512) (i : S4x2x256x512.Idx)
    (h0 : (i 0).val = s.val) (h1 : (i 1).val = k.val) (h2 : (i 2).val = x.val) (h3 : (i 3).val = y.val) :
    heldV X d c i = X (origin d c s.val) (ix3 (⟨(if d then 2 else 0) + k.val, by have := k.isLt; cases d <;> simp <;> omega⟩ : Fin 4) x y) := by
  unfold heldV
  rw [h0]
  refine congrArg _ (funext fun a => ?_)
  fin_cases a
  · exact Fin.ext (congrArg ((if d then 2 else 0) + ·) h1)
  · exact Fin.ext h2
  · exact Fin.ext h3

/-- Reading slot `s`: two experts of the slot's origin. -/
theorem read_slot (X : Wts F) (d : Bool) (c : Dev nD) (s : Fin 4) (k : Fin 2) (x : Fin 256) (y : Fin 512) :
    (slotM d s).view.read (Elt F) (held X d c) (ix3 k x y)
      = X (origin d c s.val) (ix3 (⟨(if d then 2 else 0) + k.val, by have := k.isLt; cases d <;> simp <;> omega⟩ : Fin 4) x y) := by
  cases d
  · refine (shapeCast_1abc_abc_apply ((Memref.whole cc0_scratch0).view.readAt (Elt F) (slotRect s).toLoadRect (held X false c)) _ k x y).trans ?_
    exact heldV_at X false c s k x y _ (by simp [LoadRect.idx, View.emb]; done) (by simp) (by simp) (by simp)
  · refine (shapeCast_1abc_abc_apply ((Memref.whole cc0_scratch1).view.readAt (Elt F) (slotRect s).toLoadRect (held X true c)) _ k x y).trans ?_
    exact heldV_at X true c s k x y _ (by show s.val + 1 * 0 = s.val; omega) (by show 0 + 1 * k.val = _; omega) (by show 0 + 1 * x.val = _; omega) (by show 0 + 1 * y.val = _; omega)

theorem read_hop (X : Wts F) (d : Bool) (c : Dev nD) (h : Fin 3) :
    (slotM d h.castSucc).view.read (Elt F) (held X d c) = (slotM d h.succ).view.read (Elt F) (held X d (nb d c)) := by
  funext j
  obtain ⟨k, x, y, rfl⟩ : ∃ (k : Fin 2) (x : Fin 256) (y : Fin 512), j = ix3 k x y := ⟨j 0, j 1, j 2, by funext a; fin_cases a <;> rfl⟩
  rw [read_slot, read_slot, origin_nb]

/-- A view written with what another array reads there holds that array on its elements. -/
theorem write_read_on {κ : Kind} {sp : Space} {s : Shape} {e : EltTy} (v : View sig κ sp s e) (f g : v.ty.Contents (Elt F)) :
    ∀ i ∈ v.set, v.write (Elt F) f (v.read (Elt F) g) Finset.univ i = g i := by
  intro i hi
  rw [View.write_read_eq_piecewise, View.setOn_univ, Finset.piecewise_eq_of_mem _ _ _ hi]

/-- What a hop lands: the next device's slot at its final contents. -/
theorem landed (X : Wts F) (d : Bool) (c : Dev nD) (h : Fin 3) (f : Buf (Elt F) ((slotM d h.succ).view.loc (nb d c : Thread nD τ))) :
    ((slotM d h.succ).view.loc (nb d c : Thread nD τ) ↦[(slotM d h.succ).view.set]{fullShare}
        ((slotM d h.succ).view.write (Elt F) f ((slotM d h.castSucc).view.read (Elt F) (held X d c)) Finset.univ) : sProp 𝕄)
      = slotPts X d (nb d c) h.succ fullShare := by
  rw [read_hop]
  cases d
  · exact pointsTo_congr (write_read_on (slotM false h.succ).view f (held X false (nb false c)))
  · exact pointsTo_congr (write_read_on (slotM true h.succ).view f (held X true (nb true c)))

/-- A slot at the full share is its two halves. -/
theorem slot_halves (X : Wts F) (d : Bool) (c : Dev nD) (s : Fin 4) :
    (slotPts X d c s fullShare : sProp 𝕄) ⊣⊢ iprop(slotPts X d c s fullShare.left ∗ slotPts X d c s fullShare.right) := by
  unfold slotPts
  exact pointsTo_share (PosShare.mem_left_op_right _)

/-! ## Filling slot 0 -/

theorem slot0_emb (i : S4x2x256x512.Idx) (hi : i ∈ (slotRect 0).set) :
    ∃ (k : Fin 2) (x : Fin 256) (y : Fin 512), (slotRect 0).emb (ix4 (0 : Fin 1) k x y) = i := by
  have h0 : (i 0).val = 0 := (mem_slotRect 0 i).mp hi
  refine ⟨i 1, i 2, i 3, funext fun a => Fin.ext ?_⟩
  fin_cases a
  · exact h0.symm
  · show 0 + 1 * (i 1).val = (i 1).val; omega
  · show 0 + 1 * (i 2).val = (i 2).val; omega
  · show 0 + 1 * (i 3).val = (i 3).val; omega

/-- Slot 0 after the kernel stores its own experts there. -/
theorem stored (X : Wts F) (d : Bool) (c : Dev nD) (v : S2x256x512.Idx → Elt F .bf16)
    (hv : ∀ k x y, v (ix3 k x y) = X c (ix3 (⟨(if d then 2 else 0) + k.val, by have := k.isLt; cases d <;> simp <;> omega⟩ : Fin 4) x y))
    (f : Buf (Elt F) ((bufM d).view.loc (c : Thread nD τ))) :
    (((bufM d).access (slotRect 0)).loc (c : Thread nD τ) ↦[(slotM d 0).view.set]{fullShare}
        (((bufM d).access (slotRect 0)).write (Elt F) f (shapeCast S1x2x256x512 v shapeCasts_S2x256x512_S1x2x256x512) Finset.univ) : sProp 𝕄)
      = slotPts X d c 0 fullShare := by
  have key : ∀ (k : Fin 2) (x : Fin 256) (y : Fin 512), shapeCast S1x2x256x512 v shapeCasts_S2x256x512_S1x2x256x512 (ix4 (0 : Fin 1) k x y)
      = heldV X d c ((slotRect 0).emb (ix4 (0 : Fin 1) k x y)) := by
    intro k x y
    rw [shapeCast_abc_1abc_apply, hv, heldV_at X d c 0 k x y _ (by show 0 + 1 * 0 = 0; omega) (by show 0 + 1 * k.val = _; omega) (by show 0 + 1 * x.val = _; omega) (by show 0 + 1 * y.val = _; omega)]
    rw [show origin d c (0 : Fin 4).val = c from origin_zero d c]
  unfold slotPts
  cases d
  · refine pointsTo_congr fun i hi => ?_
    rw [slot_set] at hi
    obtain ⟨k, x, y, rfl⟩ := slot0_emb i hi
    exact (View.write_emb_of_mem (v := (Memref.whole cc0_scratch0).access (slotRect 0)) f _ (Finset.mem_univ _)).trans (key k x y)
  · refine pointsTo_congr fun i hi => ?_
    rw [slot_set] at hi
    obtain ⟨k, x, y, rfl⟩ := slot0_emb i hi
    exact (View.write_emb_of_mem (v := (Memref.whole cc0_scratch1).access (slotRect 0)) f _ (Finset.mem_univ _)).trans (key k x y)

/-! ## Splitting a buffer into its slots -/

theorem slots_disjoint (s s' : Fin 4) (h : s ≠ s') : Disjoint (slotRect s).set (slotRect s').set :=
  Finset.disjoint_left.mpr fun i hi hi' => h (Fin.ext (((mem_slotRect s i).mp hi).symm.trans ((mem_slotRect s' i).mp hi')))

theorem slots_cover : (Finset.univ.biUnion fun s : Fin 4 => (slotRect s).set) = Finset.univ :=
  Finset.eq_univ_of_forall fun i => Finset.mem_biUnion.mpr ⟨⟨(i 0).val, (i 0).isLt⟩, Finset.mem_univ _, (mem_slotRect _ i).mpr rfl⟩

/-- A whole scratch buffer is its four slots. -/
theorem buf_split (d : Bool) (c : Dev nD) (f : Buf (Elt F) ((bufM d).view.loc (c : Thread nD τ))) :
    ((bufM d).view.loc (c : Thread nD τ) ↦{fullShare} f : sProp 𝕄)
      = bigSep Finset.univ fun s : Fin 4 => (slotM d s).view.loc (c : Thread nD τ) ↦[(slotM d s).view.set]{fullShare} f := by
  cases d
  · have h := pointsTo_biUnion (ℓ := (bufM false).view.loc (c : Thread nD τ)) (q := fullShare) (f := f) (Ix := Unit) (Name := ℕ) (U := UU) (Lvl := ℕ) Finset.univ (fun s : Fin 4 => (slotRect s).set)
      (fun s _ s' _ hs => slots_disjoint s s' hs)
    have hc := slots_cover
    refine Eq.trans ?_ (h.trans (bigSep_congr fun s _ => ?_))
    · exact congrArg (fun S => ((bufM false).view.loc (c : Thread nD τ) ↦[S]{fullShare} f : sProp 𝕄)) hc.symm
    · exact congrArg (fun S => ((bufM false).view.loc (c : Thread nD τ) ↦[S]{fullShare} f : sProp 𝕄)) (slot_set false s).symm
  · have h := pointsTo_biUnion (ℓ := (bufM true).view.loc (c : Thread nD τ)) (q := fullShare) (f := f) (Ix := Unit) (Name := ℕ) (U := UU) (Lvl := ℕ) Finset.univ (fun s : Fin 4 => (slotRect s).set)
      (fun s _ s' _ hs => slots_disjoint s s' hs)
    have hc := slots_cover
    refine Eq.trans ?_ (h.trans (bigSep_congr fun s _ => ?_))
    · exact congrArg (fun S => ((bufM true).view.loc (c : Thread nD τ) ↦[S]{fullShare} f : sProp 𝕄)) hc.symm
    · exact congrArg (fun S => ((bufM true).view.loc (c : Thread nD τ) ↦[S]{fullShare} f : sProp 𝕄)) (slot_set true s).symm

/-! ## Loading one expert -/

theorem expert_inb (s : Fin 4) (k : Fin 2) : ∀ a, (![s.val, k.val, 0, 0] : Fin 4 → ℕ) a + S1x1x256x512.size a ≤ S4x2x256x512.size a := by
  revert s k; decide

abbrev expertRect (s : Fin 4) (k : Fin 2) : Rect S4x2x256x512 :=
  Rect.unit (s := S4x2x256x512) ![s.val, k.val, 0, 0] S1x1x256x512.size (expert_inb s k)

theorem expert_sub (d : Bool) (s : Fin 4) (k : Fin 2) : (bufM d).view.setOn (expertRect s k).set ⊆ (slotM d s).view.set := by
  have h : (expertRect s k).set ⊆ (slotRect s).set := fun i hi => (mem_slotRect s i).mpr (by
    have := (Rect.mem_set_unit.mp hi) 0; simp at this; omega)
  cases d
  · rw [slot_set]; intro i hi; obtain ⟨j, hj, rfl⟩ := Finset.mem_map.mp hi; exact h hj
  · rw [slot_set]; intro i hi; obtain ⟨j, hj, rfl⟩ := Finset.mem_map.mp hi; exact h hj

/-- What a load of expert `k` of slot `s` gives. -/
def expert (X : Wts F) (d : Bool) (c : Dev nD) (s : Fin 4) (k : Fin 2) : Vec F S1x1x256x512 .bf16 := fun i =>
  X (origin d c s.val) (ix3 (⟨(if d then 2 else 0) + k.val, by have := k.isLt; cases d <;> simp <;> omega⟩ : Fin 4) (i 2 : Fin 256) (i 3 : Fin 512))

theorem read_expert (X : Wts F) (d : Bool) (c : Dev nD) (s : Fin 4) (k : Fin 2) :
    (bufM d).view.readAt (Elt F) (expertRect s k).toLoadRect (held X d c) = expert X d c s k := by
  funext i
  have h1 : (i 1).val = 0 := by have := (i 1).isLt; simp at this; omega
  have h0 : (i 0).val = 0 := by have := (i 0).isLt; simp at this; omega
  cases d
  · exact heldV_at X false c s k (i 2) (i 3) _ (by show s.val + 1 * (i 0).val = _; omega) (by show k.val + 1 * (i 1).val = _; omega) (by show 0 + 1 * (i 2).val = _; omega) (by show 0 + 1 * (i 3).val = _; omega)
  · exact heldV_at X true c s k (i 2) (i 3) _ (by show s.val + 1 * (i 0).val = _; omega) (by show k.val + 1 * (i 1).val = _; omega) (by show 0 + 1 * (i 2).val = _; omega) (by show 0 + 1 * (i 3).val = _; omega)

end Cert.Moe

end
-- ==== Proof.Sched.lean ====
/-
The schedule of the kernel's semaphores, and one rule per communication step.

Every semaphore runs one round. The barrier cell of device `c` takes one unit from each neighbour: the one in direction
`d` hands over its three landing slots of direction `d`. A receive cell takes one copy, which hands over the landed slot at
its final contents; a send cell takes the same copy's departure, which hands back the half share lent to the copy.
-/
module

public import proofs.«01_k».proof.Proof.Slots

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The semaphores -/

abbrev barS : Sem sig := (SemArray.scalar (sig.barrier 0 rfl) : Sems sig S_).sem
abbrev sendQ (d : Bool) (h : Fin 3) : DmaSem sig := (⟨(if d then 11 else 5) + h.val, by have := h.isLt; cases d <;> simp <;> omega⟩ : Fin 17)
abbrev recvQ (d : Bool) (h : Fin 3) : DmaSem sig := (⟨(if d then 14 else 8) + h.val, by have := h.isLt; cases d <;> simp <;> omega⟩ : Fin 17)

abbrev barCell (c : Dev nD) : GSem nD τ sig := ((c : Thread nD τ), .reg barS)
abbrev sendCell (d : Bool) (h : Fin 3) (c : Dev nD) : GSem nD τ sig := ((c : Thread nD τ), .dma (sendQ d h))
abbrev recvCell (d : Bool) (h : Fin 3) (c : Dev nD) : GSem nD τ sig := ((c : Thread nD τ), .dma (recvQ d h))

/-- What a semaphore is used for. -/
inductive Role
  | bar
  | send (d : Bool) (h : Fin 3)
  | recv (d : Bool) (h : Fin 3)
  | other

def roleOf : ℕ → Role
  | 5 => .send false 0 | 6 => .send false 1 | 7 => .send false 2
  | 8 => .recv false 0 | 9 => .recv false 1 | 10 => .recv false 2
  | 11 => .send true 0 | 12 => .send true 1 | 13 => .send true 2
  | 14 => .recv true 0 | 15 => .recv true 1 | 16 => .recv true 2
  | _ => .other

def role : SemLoc sig → Role
  | .reg _ => .bar
  | .dma q => roleOf (Fin.val q)

theorem role_send (d : Bool) (h : Fin 3) : role (.dma (sendQ d h)) = .send d h := by cases d <;> fin_cases h <;> rfl
theorem role_recv (d : Bool) (h : Fin 3) : role (.dma (recvQ d h)) = .recv d h := by cases d <;> fin_cases h <;> rfl

/-- The credit of one slot's copy. -/
abbrev N : ℕ := (slotM false 0).view.dmaCredit
theorem N_pos : 0 < N := View.dmaCredit_pos _ (by decide)
theorem credit_slot (d : Bool) (s : Fin 4) : (slotM d s).view.dmaCredit = N := by cases d <;> rfl

/-! ## The schedule -/

/-- The landing slots a device opens to its neighbour. -/
def barPay (d : Bool) (c : Dev nD) : sProp 𝕄 := iprop(slotAny d c 1 ∗ slotAny d c 2 ∗ slotAny d c 3)

instance barPay_storable (d c) : BI.Storable (upEmb : UEmb _ 𝕄) (barPay (F := F) d c) := by unfold barPay; infer_instance

def payOf (X : Wts F) (c : Dev nD) (d : Bool) : Role → sProp 𝕄
  | .bar => barPay d (nb d c)
  | .send e h => slotPts X e c h.castSucc fullShare.right
  | .recv e h => slotPts X e c h.succ fullShare
  | .other => iprop(emp)

instance payOf_storable (X : Wts F) (c d r) : BI.Storable (upEmb : UEmb _ 𝕄) (payOf X c d r) := by
  cases r <;> (unfold payOf; infer_instance)

def dutiesOf : Role → Finset Bool
  | .bar => Finset.univ
  | .send _ _ => {false}
  | .recv _ _ => {false}
  | .other => ∅

def amountOf : Role → ℕ
  | .bar => 1
  | _ => N

theorem amountOf_pos (r : Role) : 0 < amountOf r := by cases r <;> first | exact Nat.one_pos | exact N_pos

/-- One round, round 0, on every device's core. -/
def rd (X : Wts F) : Rounds.Schedule (GSem nD τ sig) Bool 𝕄 where
  duties g r := if r = 0 ∧ g.1.2 = .tc then dutiesOf (role g.2) else ∅
  unitless _ := False
  amount g _ _ := amountOf (role g.2)
  payload g _ d := payOf X g.1.1 d (role g.2)
  amount_pos g _ _ _ := amountOf_pos _

instance rd_payload_storable (X : Wts F) (g : GSem nD τ sig) (r : ℕ) (d : Bool) :
    BI.Storable (upEmb : UEmb _ 𝕄) ((rd X).payload g r d) := payOf_storable X _ _ _

section Tables
variable (X : Wts F) (c : Dev nD) (d : Bool) (h : Fin 3)

theorem duties_at (sm : SemLoc sig) : (rd X).duties ((c : Thread nD τ), sm) 0 = dutiesOf (role sm) := by
  dsimp only [rd]; exact if_pos ⟨rfl, rfl⟩
theorem duties_bar : (rd X).duties (barCell c) 0 = Finset.univ := duties_at X c _
theorem duties_send : (rd X).duties (sendCell d h c) 0 = {false} := by rw [duties_at, role_send]; rfl
theorem duties_recv : (rd X).duties (recvCell d h c) 0 = {false} := by rw [duties_at, role_recv]; rfl
theorem duties_later (g : GSem nD τ sig) : ∀ r, 1 ≤ r → (rd X).duties g r = ∅ := fun r hr => by
  dsimp only [rd]; exact if_neg fun h => by omega
theorem amount_bar (e : Bool) : (rd X).amount (barCell c) 0 e = 1 := rfl
theorem amount_send (e : Bool) : (rd X).amount (sendCell d h c) 0 e = N := by show amountOf (role _) = N; rw [role_send]; rfl
theorem amount_recv (e : Bool) : (rd X).amount (recvCell d h c) 0 e = N := by show amountOf (role _) = N; rw [role_recv]; rfl
theorem payload_bar (e : Bool) : (rd X).payload (barCell c) 0 e = barPay e (nb e c) := rfl
theorem payload_send (e : Bool) : (rd X).payload (sendCell d h c) 0 e = slotPts X d c h.castSucc fullShare.right := by
  show payOf X c e (role _) = _; rw [role_send]; rfl
theorem payload_recv (e : Bool) : (rd X).payload (recvCell d h c) 0 e = slotPts X d c h.succ fullShare := by
  show payOf X c e (role _) = _; rw [role_recv]; rfl
theorem expect_bar : (rd X).expect (barCell c) 0 = 2 := by
  unfold Schedule.expect Schedule.amountOf
  rw [duties_bar, Finset.sum_congr rfl fun e _ => amount_bar X c e, Finset.sum_const, Finset.card_univ, Fintype.card_bool, smul_eq_mul]
theorem expect_send : (rd X).expect (sendCell d h c) 0 = N := by
  unfold Schedule.expect Schedule.amountOf; rw [duties_send, Finset.sum_singleton, amount_send]
theorem expect_recv : (rd X).expect (recvCell d h c) 0 = N := by
  unfold Schedule.expect Schedule.amountOf; rw [duties_recv, Finset.sum_singleton, amount_recv]
theorem rest_bar : bigSep ((rd X).duties (barCell c) 0 \ ∅) (fun e => (rd X).payload (barCell c) 0 e) = iprop(barPay false (nxt c) ∗ barPay true (prv c)) := by
  rw [Finset.sdiff_empty, duties_bar, bigSep_univ_eq_bigSepL [false, true] (by decide) (by decide), bigSepL_cons_cons, bigSepL_singleton]
  rfl
theorem rest_send : bigSep ((rd X).duties (sendCell d h c) 0 \ ∅) (fun e => (rd X).payload (sendCell d h c) 0 e) = slotPts X d c h.castSucc fullShare.right := by
  rw [Finset.sdiff_empty, duties_send, bigSep_singleton, payload_send]
theorem rest_recv : bigSep ((rd X).duties (recvCell d h c) 0 \ ∅) (fun e => (rd X).payload (recvCell d h c) 0 e) = slotPts X d c h.succ fullShare := by
  rw [Finset.sdiff_empty, duties_recv, bigSep_singleton, payload_recv]
end Tables

/-! ## Levels and debts -/

def L (g : GSem nD τ sig) : Finset Unit := if g.1.2 = .tc then {()} else ∅

def levelOf : Role → ℕ
  | .bar => 1
  | .recv _ h => h.val + 2
  | _ => 0

/-- A barrier wait may owe copies; a wait for hop `h` may owe later hops. -/
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (d h) (c : Dev nD) : lv (recvCell d h c) () = h.val + 2 := by show levelOf (role _) = _; rw [role_recv]; rfl
theorem lv_send (d h) (c : Dev nD) : lv (sendCell d h c) () = 0 := by show levelOf (role _) = _; rw [role_send]; rfl
theorem lv_bar (c : Dev nD) : lv (barCell c) () = 1 := rfl

/-- Every debt in `O` is to a cell at a level above `n`. -/
def Above (n : ℕ) (O : CellTallies nD τ sig Unit) : Prop := ∀ g i, 0 < O g i → i ∈ L g ∧ n < lv g i

theorem Above.zero (n : ℕ) : Above n 0 := fun g i h => absurd h (Nat.lt_irrefl 0)
theorem Above.add {n : ℕ} {O O' : CellTallies nD τ sig Unit} (h : Above n O) (h' : Above n O') : Above n (O + O') := fun g i hp =>
  (Pipeline.add_pos_cases hp).elim (h g i) (h' g i)
theorem Above.tally {n k : ℕ} (c : Dev nD) (sm : SemLoc sig) (hn : n < lv ((c : Thread nD τ), sm) ()) : Above n (tallyAt ((c : Thread nD τ), sm) () k) := fun g i hp => by
  obtain ⟨rfl, rfl⟩ := Pipeline.tallyAt_pos hp
  exact ⟨by rw [L_tc]; exact Finset.mem_singleton_self _, hn⟩

theorem mayWait {n : ℕ} {O : CellTallies nD τ sig Unit} (h : Above n O) (c : Dev nD) (sm : SemLoc sig) (hn : lv ((c : Thread nD τ), sm) () ≤ n) :
    (levAts L lv : sProp 𝕄) ⊢ MayWait (c : Thread nD τ) sm () O :=
  Pipeline.mayWait_of_levAts (by rw [L_tc]; exact Finset.mem_singleton_self _) (fun g i hp => ⟨(h g i hp).1, lt_of_le_of_lt hn (h g i hp).2⟩)

/-- The copy of hop `h` in direction `d`, owed to the neighbour's receive cell. -/
def due (d : Bool) (h : Fin 3) (c : Dev nD) : CellTallies nD τ sig Unit := tallyAt (recvCell d h (nb d c)) () N

theorem due_above (d : Bool) (h : Fin 3) (c : Dev nD) {n : ℕ} (hn : n < h.val + 2) : Above n (due d h c) :=
  Above.tally _ _ (by rw [lv_recv]; exact hn)

/-- What device `c` still owes before hop `h`'s two copies, in the order it pays. -/
def owed2 (c : Dev nD) : CellTallies nD τ sig Unit := due true 2 c + due false 2 c
def owed1 (c : Dev nD) : CellTallies nD τ sig Unit := owed2 c + due true 1 c + due false 1 c
def owed0 (c : Dev nD) : CellTallies nD τ sig Unit := owed1 c + due true 0 c + due false 0 c
def owedBar (c : Dev nD) : CellTallies nD τ sig Unit := owed0 c + tallyAt (barCell (nxt c)) () 1
def owedAll (c : Dev nD) : CellTallies nD τ sig Unit := owedBar c + tallyAt (barCell (prv c)) () 1

theorem owed2_above (c : Dev nD) {n : ℕ} (hn : n < 4) : Above n (owed2 c) := (due_above _ _ _ (by simpa using hn)).add (due_above _ _ _ (by simpa using hn))
theorem owed1_above (c : Dev nD) {n : ℕ} (hn : n < 3) : Above n (owed1 c) :=
  ((owed2_above c (by omega)).add (due_above _ _ _ (by simpa using hn))).add (due_above _ _ _ (by simpa using hn))
theorem owed0_above (c : Dev nD) {n : ℕ} (hn : n < 2) : Above n (owed0 c) :=
  ((owed1_above c (by omega)).add (due_above _ _ _ (by simpa using hn))).add (due_above _ _ _ (by simpa using hn))
theorem owedAll_above (c : Dev nD) {n : ℕ} (hn : n < 1) : Above n (owedAll c) :=
  ((owed0_above c (by omega)).add (Above.tally _ _ (by rw [lv_bar]; exact hn))).add (Above.tally _ _ (by rw [lv_bar]; exact hn))

/-- What the core owes, whatever it has waited on. -/
def Ow (c : Dev nD) (O : CellTallies nD τ sig Unit) : sProp 𝕄 := iprop(∃ W, owes (c : Thread nD τ) O W)

/-! ## The cells' records -/

/-- The cells' semaphores in one list: the barrier, then the copies'. -/
def csem (k : Fin 13) : SemLoc sig := if k.val = 0 then .reg barS else .dma (⟨4 + k.val, by have := k.isLt; show _ < 17; omega⟩ : Fin 17)
abbrev kcell (ck : Dev nD × Fin 13) : GSem nD τ sig := ((ck.1 : Thread nD τ), csem ck.2)

/-- Every cell's invariant, at names `K`, and that its round 0 is reached. -/
def records (X : Wts F) (K : Dev nD × Fin 13 → ℕ) : sProp 𝕄 :=
  iprop((bigSep Finset.univ fun ck : Dev nD × Fin 13 => cellInv ER (rd X) (K ck) (kcell ck)) ∗ (bigSep Finset.univ fun ck : Dev nD × Fin 13 => reached ER (kcell ck) 0))

instance records_persistent (X : Wts F) (K) : BI.Persistent (records X K) := by unfold records; infer_instance

variable (X : Wts F) (K : Dev nD × Fin 13 → ℕ)

abbrev kSend (d : Bool) (h : Fin 3) : Fin 13 := ⟨(if d then 7 else 1) + h.val, by have := h.isLt; cases d <;> simp <;> omega⟩
abbrev kRecv (d : Bool) (h : Fin 3) : Fin 13 := ⟨(if d then 10 else 4) + h.val, by have := h.isLt; cases d <;> simp <;> omega⟩

theorem csem_send (d : Bool) (h : Fin 3) : csem (kSend d h) = .dma (sendQ d h) := by cases d <;> fin_cases h <;> rfl
theorem csem_recv (d : Bool) (h : Fin 3) : csem (kRecv d h) = .dma (recvQ d h) := by cases d <;> fin_cases h <;> rfl

theorem inv_of (ck : Dev nD × Fin 13) :
    (bigSep Finset.univ fun ck : Dev nD × Fin 13 => (cellInv ER (rd X) (K ck) (kcell ck) : sProp 𝕄)) ⊢ cellInv ER (rd X) (K ck) (kcell ck) :=
  bigSep_elim (Finset.mem_univ ck)
theorem reached_of (ck : Dev nD × Fin 13) :
    (bigSep Finset.univ fun ck : Dev nD × Fin 13 => (reached ER (kcell ck) 0 : sProp 𝕄)) ⊢ reached ER (kcell ck) 0 :=
  bigSep_elim (Finset.mem_univ ck)

theorem rec_at (ck : Dev nD × Fin 13) : records X K ⊢ iprop(cellInv ER (rd X) (K ck) (kcell ck) ∗ reached ER (kcell ck) 0) :=
  BI.sep_mono (inv_of X K ck) (reached_of ck)

theorem rec_bar (c : Dev nD) : records X K ⊢ iprop(cellInv ER (rd X) (K (c, 0)) (barCell c) ∗ reached ER (barCell c) 0) := rec_at X K (c, 0)
theorem rec_send (d h) (c : Dev nD) : records X K ⊢ iprop(cellInv ER (rd X) (K (c, kSend d h)) (sendCell d h c) ∗ reached ER (sendCell d h c) 0) := by
  have := rec_at X K (c, kSend d h); rw [kcell, csem_send] at this; exact this
theorem rec_recv (d h) (c : Dev nD) : records X K ⊢ iprop(cellInv ER (rd X) (K (c, kRecv d h)) (recvCell d h c) ∗ reached ER (recvCell d h c) 0) := by
  have := rec_at X K (c, kRecv d h); rw [kcell, csem_recv] at this; exact this

abbrev 𝒱₀ : Variants := Variants.none

/-! ## One rule per step -/

section Steps

/-- A barrier signal to the neighbour for which `c` is the neighbour in direction `d`, handing over `c`'s landing slots. -/
theorem signal_step {α : Type} {Q : α → sProp 𝕄} {k : PUnit → Prog (TpuEff nD τ sig (Elt F) Λ₀ .tc) α} (d : Bool) (c n : Dev nD) (hn : nb d n = c) (w : ℤ) (hw : w = ((1 : ℕ) : ℤ)) {O₁ : CellTallies nD τ sig Unit} (O) (hO : O₁ = O + tallyAt (barCell n) () 1) :
    iprop(records X K ∗ Ow c O₁ ∗ dutyTok ER (barCell n) 0 d ∗ barPay d c)
      ⊢ iprop((Ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS w) k) Q) := by
  subst hw
  unfold Ow
  iintro ⟨#HR, ⟨%W, HO⟩, Ht, Hp⟩ Hk
  ihave H := (rec_bar X K n) $$ HR
  icases H with ⟨#HI, #Hr⟩
  iapply (Rounds.wp_signal 𝒱₀ ER (rd X) (c : Thread nD τ) none (dst := (n : Thread nD τ)) (κ := K (n, 0))
      (d := d) (by rw [duties_bar]; exact Finset.mem_univ _) (amount_bar X n d) () O hO) $$ [HO Ht Hp]
  · isplitr; · iexact HI
    isplitl [HO]; · iexact HO
    isplitl [Ht]; · iexact Ht
    isplitl [Hp]; · rw [payload_bar, hn]; iexact Hp
    iexact Hr
  iintro HO
  iapply Hk
  iexists W; iexact HO

/-- The barrier wait: both neighbours' landing slots come with it, and the cell closes. -/
theorem barrier_step {α : Type} {Q : α → sProp 𝕄} {k : PUnit → Prog (TpuEff nD τ sig (Elt F) Λ₀ .tc) α} (c : Dev nD) (w : ℤ) (hw : w = ((2 : ℕ) : ℤ)) (O) (hO : Above 1 O) :
    iprop(records X K ∗ levAts L lv ∗ cred (tallyAt (barCell c) () 2) ∗ Ow c O ∗ atPos ER (barCell c) 0 ∅ 0)
      ⊢ iprop(((Ow c O ∗ semVal (barCell c) 0 ∗ barPay false (nxt c) ∗ barPay true (prv c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w) k) Q) := by
  subst hw
  unfold Ow
  iintro ⟨#HR, #Hlev, Hc, ⟨%W, HO⟩, Hat⟩ Hk
  ihave H := (rec_bar X K c) $$ HR
  icases H with ⟨#HI, #Hr⟩
  iapply (Rounds.wp_wait_rest_token 𝒱₀ ER (rd X) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait hO c (.reg barS) (by rw [lv_bar])); iexact Hlev
    iexact Hat
  iintro ⟨HO, Hat, -, Hpay⟩
  ihave Hp := (Entails.of_eq (rest_bar X c)) $$ Hpay
  icases Hp with ⟨Hp1, Hp2⟩
  imod (Rounds.cell_close ER (rd X) (Set.mem_univ (K (c, 0))) (fun h => h) (R := 0 + 1) (duties_later X (barCell c))) $$ [Hat] with Hz
  · isplitr; · iexact HI
    iexact Hat
  iapply Hk
  isplitl [HO]; · iexists _; iexact HO
  isplitl [Hz]; · iexact Hz
  isplitl [Hp1] <;> iassumption

/-- One copy: the neighbour's landing slot is spent, the right half of the source slot is lent to the copy. -/
theorem send_step {α : Type} {Q : α → sProp 𝕄} {k : PUnit → Prog (TpuEff nD τ sig (Elt F) Λ₀ .tc) α} (d : Bool) (h : Fin 3) (c n : Dev nD) (hn : n = nb d c)
    (src : Memref sig .tc .vmem S2x256x512 .bf16) (hs : src = slotM d h.castSucc)
    (dst : Memref sig .tc .vmem S2x256x512 .bf16) (hd : dst = slotM d h.succ)
    (qs qr : DmaSem sig) (hqs : qs = sendQ d h) (hqr : qr = recvQ d h)
    {hsc : (dst : Memref sig (Dev.tc n : Thread nD τ).2.kind .vmem S2x256x512 .bf16).view.ref.isScScratch = false}
    {hsrc : src.view.WordExact} {hdst : dst.view.WordExact}
    {hsem : DmaTarget.Typed .vmem (.dma qr) (.remote (Dev.tc n : Thread nD τ) dst (.dma qs) hsc)}
    {O₁ : CellTallies nD τ sig Unit} (O) (hO : O₁ = O + due d h c) :
    iprop(records X K ∗ slotPts X d c h.castSucc fullShare ∗ slotAny d (nb d c) h.succ ∗ Ow c O₁
        ∗ dutyTok ER (sendCell d h c) 0 false ∗ dutyTok ER (recvCell d h (nb d c)) 0 false)
      ⊢ iprop(((cred (tallyAt (sendCell d h c) () N) ∗ Ow c O ∗ slotPts X d c h.castSucc fullShare.left)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hs hd hqs hqr
  unfold Ow slotAny
  iintro ⟨#HR, Hsrc, ⟨%fd, Hdst⟩, ⟨%W, HO⟩, Hts, Htr⟩ Hk
  ihave H := (rec_send X K d h c) $$ HR
  icases H with ⟨#HIs, #Hrs⟩
  ihave H := (rec_recv X K d h (nb d c)) $$ HR
  icases H with ⟨#HIr, #Hrr⟩
  ihave Hh := (slot_halves X d c h.castSucc).1 $$ Hsrc
  icases Hh with ⟨Hl, Hr⟩
  iapply (Rounds.wp_send_pointsTo 𝒱₀ ER (rd X) (c : Thread nD τ) none (c' := (nb d c : Thread nD τ)) (κ₁ := K (c, kSend d h)) (κ₂ := K (nb d c, kRecv d h))
    (r₁ := 0) (r₂ := 0) (d₁ := false) (d₂ := false) (fd := fd)
    (by rw [duties_send]; exact Finset.mem_singleton_self _) (by rw [duties_recv]; exact Finset.mem_singleton_self _)
    (sS := .dma (sendQ d h)) (sem := .dma (recvQ d h)) () () N (credit_slot d h.succ) (amount_send X c d h false) (amount_recv X (nb d c) d h false) O hO (W := W)
    (q := fullShare.right) (src := slotM d h.castSucc) (dst := slotM d h.succ) (fs := held X d c)
    (by rw [payload_send]; exact BI.Entails.refl _)
    (by rw [payload_recv]; exact Entails.of_eq (landed X d c h fd))) $$ [Hr Hdst HO Hts Htr]
  · isplitr; · iexact HIs
    isplitr; · iexact HIr
    isplitl [Hr]; · unfold slotPts; iexact Hr
    isplitl [Hdst]; · iexact Hdst
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  isplitl [HO]; · iexists _; iexact HO
  iexact Hl

/-- The wait for a landing: the landed slot at its final contents, and the cell closes. -/
theorem recv_step {α : Type} {Q : α → sProp 𝕄} {k : PUnit → Prog (TpuEff nD τ sig (Elt F) Λ₀ .tc) α} (d : Bool) (h : Fin 3) (c : Dev nD) {sp sp' : Space} {s s' : Shape} {e e' : EltTy}
    (src : Memref sig .tc sp' s' e') (dst : Memref sig .tc sp s e) (hd : dst.view.dmaCredit = N)
    (q : DmaSem sig) (hq : q = recvQ d h) {hsrc : src.view.WordExact} {hdst : dst.view.WordExact} (O) (hO : Above (h.val + 2) O) :
    iprop(records X K ∗ levAts L lv ∗ cred (tallyAt (recvCell d h c) () N) ∗ Ow c O ∗ atPos ER (recvCell d h c) 0 ∅ 0)
      ⊢ iprop(((Ow c O ∗ semVal (recvCell d h c) 0 ∗ slotPts X d c h.succ fullShare)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold Ow
  iintro ⟨#HR, #Hlev, Hc, ⟨%W, HO⟩, Hat⟩ Hk
  ihave H := (rec_recv X K d h c) $$ HR
  icases H with ⟨#HI, #Hr⟩
  iapply (Rounds.wp_wait_rest_token 𝒱₀ ER (rd X) (c : Thread nD τ) none (κ := K (c, kRecv d h))
      (wpE_waitDma2_eq 𝒱₀ (c : Thread nD τ) none Set.univ) (Set.mem_univ _) () (O := O) (W := W) (R := 0) (m := 0) (T := ∅)
      (by rw [expect_recv, hd, Nat.zero_add])) $$ [Hc HO Hat]
  · isplitr; · iexact HI
    isplitl [Hc]; · rw [hd]; iexact Hc
    isplitl [HO]; · iexact HO
    isplitr; · iapply (mayWait hO c (.dma (recvQ d h)) (by rw [lv_recv])); iexact Hlev
    iexact Hat
  iintro ⟨HO, Hat, -, Hpay⟩
  ihave Hp := (Entails.of_eq (rest_recv X c d h)) $$ Hpay
  imod (Rounds.cell_close ER (rd X) (Set.mem_univ (K (c, kRecv d h))) (fun h => h) (R := 0 + 1) (duties_later X (recvCell d h c))) $$ [Hat] with Hz
  · isplitr; · iexact HI
    iexact Hat
  iapply Hk
  isplitl [HO]; · iexists _; iexact HO
  isplitl [Hz] <;> iassumption

/-- The wait for a departure: the lent half comes back, and the cell closes. -/
theorem sent_step {α : Type} {Q : α → sProp 𝕄} {k : PUnit → Prog (TpuEff nD τ sig (Elt F) Λ₀ .tc) α} (d : Bool) (h : Fin 3) (c : Dev nD) {sp sp' : Space} {s s' : Shape} {e e' : EltTy}
    (src : Memref sig .tc sp' s' e') (dst : Memref sig .tc sp s e) (hd : dst.view.dmaCredit = N)
    (q : DmaSem sig) (hq : q = sendQ d h) {hsrc : src.view.WordExact} {hdst : dst.view.WordExact} :
    iprop(records X K ∗ cred (tallyAt (sendCell d h c) () N) ∗ Ow c 0 ∗ atPos ER (sendCell d h c) 0 ∅ 0 ∗ slotPts X d c h.castSucc fullShare.left)
      ⊢ iprop(((Ow c 0 ∗ semVal (sendCell d h c) 0 ∗ slotPts X d c h.castSucc fullShare)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold Ow
  iintro ⟨#HR, Hc, ⟨%W, HO⟩, Hat, Hl⟩ Hk
  ihave H := (rec_send X K d h c) $$ HR
  icases H with ⟨#HI, #Hr⟩
  iapply (Rounds.wp_wait_rest_token 𝒱₀ ER (rd X) (c : Thread nD τ) none (κ := K (c, kSend d h))
      (wpE_waitDma2_eq 𝒱₀ (c : Thread nD τ) none Set.univ) (Set.mem_univ _) () (O := 0) (W := W) (R := 0) (m := 0) (T := ∅)
      (by rw [expect_send, hd, Nat.zero_add])) $$ [Hc HO Hat]
  · isplitr; · iexact HI
    isplitl [Hc]; · rw [hd]; iexact Hc
    isplitl [HO]; · iexact HO
    isplitr; · rw [MayWait_zero]; iempintro
    iexact Hat
  iintro ⟨HO, Hat, -, Hpay⟩
  ihave Hp := (Entails.of_eq (rest_send X c d h)) $$ Hpay
  imod (Rounds.cell_close ER (rd X) (Set.mem_univ (K (c, kSend d h))) (fun h => h) (R := 0 + 1) (duties_later X (sendCell d h c))) $$ [Hat] with Hz
  · isplitr; · iexact HI
    iexact Hat
  iapply Hk
  isplitl [HO]; · iexists _; iexact HO
  isplitl [Hz]; · iexact Hz
  iapply (slot_halves X d c h.castSucc).2
  isplitl [Hl] <;> iassumption

/-- A load of one expert from a slot held at any share. -/
theorem load_step {α : Type} {Q : α → sProp 𝕄} (d : Bool) (s : Fin 4) (j : Fin 2) (c : Dev nD) (q : PosShare TreeShare)
    (m : Memref sig .tc .vmem S4x2x256x512 .bf16) (hm : m = bufM d) (off : Fin 4 → ℕ) (hoff : off = ![s.val, j.val, 0, 0])
    {inb : ∀ a, off a + S1x1x256x512.size a ≤ S4x2x256x512.size a}
    {hl : m.view.LoadsAt (Rect.unit (s := S4x2x256x512) off S1x1x256x512.size inb).toLoadRect}
    {k : (S1x1x256x512.Idx → Elt F .bf16) → Prog (TpuEff nD τ sig (Elt F) Λ₀ .tc) α} :
    slotPts X d c s q
      ⊢ iprop((slotPts X d c s q -∗ wp frame (wpE (defs₀ (F := F)) 𝒱₀ (c : Thread nD τ) none) Set.univ (k (expert X d c s j)) Q)
          -∗ wp frame (wpE (defs₀ (F := F)) 𝒱₀ (c : Thread nD τ) none) Set.univ
              (.op (.load m (Rect.unit (s := S4x2x256x512) off S1x1x256x512.size inb).toLoadRect hl) k) Q) := by
  subst hm hoff
  rw [← read_expert]
  unfold slotPts
  cases d
  · exact wp_load 𝒱₀ (c : Thread nD τ) none Set.univ (m := bufM false) (expert_sub false s j)
  · exact wp_load 𝒱₀ (c : Thread nD τ) none Set.univ (m := bufM true) (expert_sub true s j)

end Steps

end Cert.Moe

end
-- ==== Proof.Body.lean ====
/-
The kernel's body on one device, at a symbolic device index, one lemma per printed part.

`out` is the closed form of what the body leaves in its result buffer: the accumulation over the eight pairs of experts, in
the order the kernel takes them, with each expert named by the device it comes from.
-/
module

public import proofs.«01_k».proof.Proof.Sched

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result in closed form -/

section Out
variable (X : Wts F) (c : Dev nD) (A0 : Vec F S512x256 .bf16) (A1 : Vec F S256x16 .bf16) (A2 : Vec F S512x2 .i32)

/-- The lane index, expert by expert. -/
def lanes : IVec S512x16 32 := iota .tc S512x16 32 [1] iota_S512x16_d1_w32
/-- The two columns of the routing table. -/
def col0 : Vec F S512x1 .i32 := (Memref.whole cc0_stg2_0).view.readAt (Elt F) (Rect.unit (s := S512x2) ![0, 0] S512x1.size inb_S512x2_S512x1_0_0).toLoadRect A2
def col1 : Vec F S512x1 .i32 := (Memref.whole cc0_stg2_0).view.readAt (Elt F) (Rect.unit (s := S512x2) ![0, 1] S512x1.size inb_S512x2_S512x1_0_1).toLoadRect A2
/-- Each token's combining weight for each expert. -/
def wts : FVec F S512x16 .f32 := k0_pay4 (k0_pay3 A0) A1 (col0 A2) (col1 A2)
def xv : FVec F S512x256 .bf16 := k0_pay5 A0
/-- The device's own index and the one `s` places on, as the kernel computes them. -/
def my : BitVec 32 := Scalar.remsi (Scalar.divsi (Dev.word c) 1#32) 4#32
abbrev mu (s : BitVec 32) : BitVec 32 := Scalar.remsi (Scalar.addi (my c) s) 4#32
def acc0a : FVec F S512x512 .f32 := k0_pay8 lanes (wts A0 A1 A2) (xv A0) (k0_pay6 (F := F)) (mu c 4#32) (k0_pay7 (my c) lanes (wts A0 A1 A2)) (expert X false c 0 0) (expert X false c 0 1)
def acc0 : FVec F S512x512 .f32 := k0_pay11 lanes (wts A0 A1 A2) (xv A0) (mu c 0#32) (acc0a X c A0 A1 A2) (k0_pay9 lanes (wts A0 A1 A2) (mu c 0#32)) (k0_pay10 (xv A0) (expert X true c 0 0)) (expert X true c 0 1)
def acc1a : FVec F S512x512 .f32 := k0_pay12 lanes (wts A0 A1 A2) (xv A0) (acc0 X c A0 A1 A2) (mu c 3#32) (expert X false c 1 0) (expert X false c 1 1)
def acc1 : FVec F S512x512 .f32 := k0_pay13 lanes (wts A0 A1 A2) (xv A0) (mu c 1#32) (acc1a X c A0 A1 A2) (Scalar.addi (Scalar.addi (Scalar.muli (mu c 1#32) 4#32) 2#32) 0#32) (expert X true c 1 0) (expert X true c 1 1)
def acc2a : FVec F S512x512 .f32 := k0_pay14 (my c) lanes (wts A0 A1 A2) (xv A0) (acc1 X c A0 A1 A2) (expert X false c 2 0)
def acc2 : FVec F S512x512 .f32 := k0_pay16 lanes (wts A0 A1 A2) (xv A0) (mu c 2#32) (acc2a X c A0 A1 A2) (k0_pay15 (my c) lanes (wts A0 A1 A2)) (expert X false c 2 1) (expert X true c 2 0) (expert X true c 2 1)
def acc3a : FVec F S512x512 .f32 := k0_pay19 lanes (wts A0 A1 A2) (xv A0) (acc2 X c A0 A1 A2) (mu c 1#32) (k0_pay17 (my c) lanes) (k0_pay18 (F := F)) (expert X false c 3 0) (expert X false c 3 1)
def out : FVec F S512x512 .f32 := k0_pay22 lanes (wts A0 A1 A2) (xv A0) (mu c 3#32) (acc3a X c A0 A1 A2) (k0_pay20 lanes (wts A0 A1 A2) (mu c 3#32)) (k0_pay21 (expert X true c 3 0)) (expert X true c 3 1)
end Out

/-! ## Whole staging buffers -/

theorem hz2 : (![0, 0] : Fin 2 → Nat) = fun _ => 0 := funext fun a => by fin_cases a <;> rfl

theorem read_A0 (f : Vec F S512x256 .bf16) : (Memref.whole cc0_stg0_0).view.readAt (Elt F) (Rect.unit (s := S512x256) ![0, 0] S512x256.size inb_S512x256_S512x256_0_0).toLoadRect f = f :=
  Memref.readAt_unit_zero (Elt F) cc0_stg0_0 hz2 _ f
theorem read_A1 (f : Vec F S256x16 .bf16) : (Memref.whole cc0_stg1_0).view.readAt (Elt F) (Rect.unit (s := S256x16) ![0, 0] S256x16.size inb_S256x16_S256x16_0_0).toLoadRect f = f :=
  Memref.readAt_unit_zero (Elt F) cc0_stg1_0 hz2 _ f
theorem write_A4 (f w : Vec F S512x512 .f32) :
    ((Memref.whole cc0_stg4_0).access (Rect.unit (s := S512x512) ![0, 0] S512x512.size inb_S512x512_S512x512_0_0) : View sig .tc _ _ _).write (Elt F) f w Finset.univ = w :=
  Memref.write_access_unit_zero_univ (Elt F) cc0_stg4_0 hz2 _ f w

/-- A staging buffer of device `c` at contents `f`. -/
abbrev at0 (c : Dev nD) (f : Vec F S512x256 .bf16) : sProp 𝕄 := ((c : Thread nD τ).loc cc0_stg0_0) ↦{fullShare} f
abbrev at1 (c : Dev nD) (f : Vec F S256x16 .bf16) : sProp 𝕄 := ((c : Thread nD τ).loc cc0_stg1_0) ↦{fullShare} f
abbrev at2 (c : Dev nD) (f : Vec F S512x2 .i32) : sProp 𝕄 := ((c : Thread nD τ).loc cc0_stg2_0) ↦{fullShare} f
abbrev at3 (c : Dev nD) (f : Vec F S4x256x512 .bf16) : sProp 𝕄 := ((c : Thread nD τ).loc cc0_stg3_0) ↦{fullShare} f
abbrev at4 (c : Dev nD) (f : Vec F S512x512 .f32) : sProp 𝕄 := ((c : Thread nD τ).loc cc0_stg4_0) ↦{fullShare} f

theorem half0 (X : Wts F) (c : Dev nD) (k : Fin 2) (x : Fin 256) (y : Fin 512) :
    (Memref.whole cc0_stg3_0).view.readAt (Elt F) (Rect.unit (s := S4x256x512) ![0, 0, 0] S2x256x512.size inb_S4x256x512_S2x256x512_0_0_0).toLoadRect (X c) (ix3 k x y)
      = X c (ix3 (⟨(if false then 2 else 0) + k.val, by have := k.isLt; simp; omega⟩ : Fin 4) x y) := by
  refine congrArg (X c) (funext fun a => Fin.ext ?_)
  fin_cases a
  · show 0 + 1 * k.val = 0 + k.val; omega
  · show 0 + 1 * x.val = x.val; omega
  · show 0 + 1 * y.val = y.val; omega
theorem half1 (X : Wts F) (c : Dev nD) (k : Fin 2) (x : Fin 256) (y : Fin 512) :
    (Memref.whole cc0_stg3_0).view.readAt (Elt F) (Rect.unit (s := S4x256x512) ![2, 0, 0] S2x256x512.size inb_S4x256x512_S2x256x512_2_0_0).toLoadRect (X c) (ix3 k x y)
      = X c (ix3 (⟨(if true then 2 else 0) + k.val, by have := k.isLt; simp; omega⟩ : Fin 4) x y) := by
  refine congrArg (X c) (funext fun a => Fin.ext ?_)
  fin_cases a
  · show 2 + 1 * k.val = 2 + k.val; omega
  · show 0 + 1 * x.val = x.val; omega
  · show 0 + 1 * y.val = y.val; omega

/-- A load from slot 0 before it is filled, whose value is not used. -/
theorem idle_step {α : Type} {Q : α → sProp 𝕄} (d : Bool) (c : Dev nD)
    (m : Memref sig .tc .vmem S4x2x256x512 .bf16) (hm : m = bufM d) (off : Fin 4 → ℕ) (hoff : off = ![0, 0, 0, 0])
    {inb : ∀ a, off a + S1x2x256x512.size a ≤ S4x2x256x512.size a}
    {hl : m.view.LoadsAt (Rect.unit (s := S4x2x256x512) off S1x2x256x512.size inb).toLoadRect}
    {k : (S1x2x256x512.Idx → Elt F .bf16) → Prog (TpuEff nD τ sig (Elt F) Λ₀ .tc) α} (p : Prog (TpuEff nD τ sig (Elt F) Λ₀ .tc) α) (hk : ∀ v, k v = p) :
    slotAny d c 0
      ⊢ iprop((slotAny d c 0 -∗ wp frame (wpE (defs₀ (F := F)) 𝒱₀ (c : Thread nD τ) none) Set.univ p Q)
          -∗ wp frame (wpE (defs₀ (F := F)) 𝒱₀ (c : Thread nD τ) none) Set.univ
              (.op (.load m (Rect.unit (s := S4x2x256x512) off S1x2x256x512.size inb).toLoadRect hl) k) Q) := by
  subst hm hoff
  obtain rfl : k = fun _ => p := funext hk
  have hs : ∀ d, (bufM d).view.setOn (slotRect 0).set ⊆ (slotM d 0).view.set := fun d => by
    cases d
    · rw [slot_set]; intro i hi; obtain ⟨j, hj, rfl⟩ := Finset.mem_map.mp hi; exact hj
    · rw [slot_set]; intro i hi; obtain ⟨j, hj, rfl⟩ := Finset.mem_map.mp hi; exact hj
  unfold slotAny
  iintro ⟨%f, H⟩ Hk
  cases d
  · iapply (wp_load 𝒱₀ (c : Thread nD τ) none Set.univ (m := bufM false) (r := (slotRect 0).toLoadRect) (hs false)) $$ H
    iintro H; iapply Hk; iexists f; iexact H
  · iapply (wp_load 𝒱₀ (c : Thread nD τ) none Set.univ (m := bufM true) (r := (slotRect 0).toLoadRect) (hs true)) $$ H
    iintro H; iapply Hk; iexists f; iexact H

/-- The store that fills slot 0 with two of the device's own experts. -/
theorem fill_step {α : Type} {Q : α → sProp 𝕄} {k : PUnit → Prog (TpuEff nD τ sig (Elt F) Λ₀ .tc) α} (X : Wts F) (d : Bool) (c : Dev nD)
    (m : Memref sig .tc .vmem S4x2x256x512 .bf16) (hm : m = bufM d) (off : Fin 4 → ℕ) (hoff : off = ![0, 0, 0, 0])
    {inb : ∀ a, off a + S1x2x256x512.size a ≤ S4x2x256x512.size a} {w : S1x2x256x512.Idx → Elt F .bf16}
    {Mk : Finset (Rect.unit (s := S4x2x256x512) off S1x2x256x512.size inb).shape.Idx} (hMk : Mk = Finset.univ)
    {hx : (m.access (Rect.unit (s := S4x2x256x512) off S1x2x256x512.size inb)).Stores Mk} {hm' : Mk = Finset.univ ∨ ∀ a, (Rect.unit (s := S4x2x256x512) off S1x2x256x512.size inb).stride a = 1}
    (v : S2x256x512.Idx → Elt F .bf16) (hw : w = shapeCast S1x2x256x512 (shapeCast S2x256x512 v shapeCasts_S2x256x512_S2x256x512) shapeCasts_S2x256x512_S1x2x256x512)
    (hv : ∀ k x y, v (ix3 k x y) = X c (ix3 (⟨(if d then 2 else 0) + k.val, by have := k.isLt; cases d <;> simp <;> omega⟩ : Fin 4) x y)) :
    slotAny d c 0
      ⊢ iprop((slotPts X d c 0 fullShare -∗ wp frame (wpE (defs₀ (F := F)) 𝒱₀ (c : Thread nD τ) none) Set.univ (k ⟨⟩) Q)
          -∗ wp frame (wpE (defs₀ (F := F)) 𝒱₀ (c : Thread nD τ) none) Set.univ
              (.op (.store m (Rect.unit (s := S4x2x256x512) off S1x2x256x512.size inb) w Mk hx hm') k) Q) := by
  subst hm hoff hMk
  rw [shapeCast_self] at hw
  subst hw
  have hs : ∀ d, ((bufM d).access (slotRect 0)).setOn Finset.univ ⊆ (slotM d 0).view.set := fun d => by
    cases d
    · rw [slot_set]; exact (View.set_slice_whole _ _).subset
    · rw [slot_set]; exact (View.set_slice_whole _ _).subset
  unfold slotAny
  iintro ⟨%f, H⟩ Hk
  cases d
  · iapply (wp_store 𝒱₀ (c : Thread nD τ) none Set.univ (m := bufM false) (r := slotRect 0) (Mk := Finset.univ) (hs false)) $$ H
    iintro H; iapply Hk
    iapply (Entails.of_eq (stored X false c v hv f)); iexact H
  · iapply (wp_store 𝒱₀ (c : Thread nD τ) none Set.univ (m := bufM true) (r := slotRect 0) (Mk := Finset.univ) (hs true)) $$ H
    iintro H; iapply Hk
    iapply (Entails.of_eq (stored X true c v hv f)); iexact H

/-! ## The parts -/

section Parts
variable (X : Wts F) (K : Dev nD × Fin 13 → ℕ) (c : Dev nD)

theorem part1_run {Q : _ → sProp 𝕄} (A0 : Vec F S512x256 .bf16) :
    iprop((records X K ∗ levAts L lv ∗ at0 c A0 ∗ at3 c (X c) ∗ slotAny false c 0 ∗ slotAny true c 0 ∗ barPay false c ∗ barPay true c ∗ Ow c (owedAll c)
        ∗ dutyTok ER (barCell (prv c)) 0 false ∗ dutyTok ER (barCell (nxt c)) 0 true ∗ cred (tallyAt (barCell c) () 2) ∗ atPos ER (barCell c) 0 ∅ 0)
      ∗ ((at0 c A0 ∗ at3 c (X c) ∗ slotPts X false c 0 fullShare ∗ slotPts X true c 0 fullShare ∗ Ow c (owed0 c) ∗ semVal (barCell c) 0 ∗ barPay false (nxt c) ∗ barPay true (prv c))
        -∗ Q ⟨c, my c, mu c 3#32, mu c 1#32, k0_pay3 A0⟩))
      ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 ) Q := by
  simp only [k0_part1_eq_skeleton]; unfold k0_part1_skel
  simp only [mu, my, semSignalWord, semWaitWord, Prog.lift, Prog.bind_op, Prog.bind_ret, Prog.pure_eq_ret, wp_deviceId]
  iintro ⟨⟨#HR, #HLv, H0, H3, Hs0, Hs1, Hb0, Hb1, Hw, Ht0, Ht1, Hc, Hat⟩, Hk⟩
  iapply (wp_load 𝒱₀ (c : Thread nD τ) none Set.univ (m := Memref.whole cc0_stg3_0) (Finset.subset_univ _)) $$ H3; iintro H3
  iapply (idle_step false c _ rfl _ rfl _ (fun _ => rfl)) $$ Hs0; iintro Hs0
  iapply (fill_step X false c _ rfl _ rfl rfl _ rfl (half0 X c)) $$ Hs0; iintro Hs0
  iapply (wp_load 𝒱₀ (c : Thread nD τ) none Set.univ (m := Memref.whole cc0_stg3_0) (Finset.subset_univ _)) $$ H3; iintro H3
  iapply (idle_step true c _ rfl _ rfl _ (fun _ => rfl)) $$ Hs1; iintro Hs1
  iapply (fill_step X true c _ rfl _ rfl rfl _ rfl (half1 X c)) $$ Hs1; iintro Hs1
  simp only [dev1_eq c, dev2_eq c]
  iapply (signal_step X K false c (prv c) (nxt_prv c) _ (by decide) (owedBar c) rfl) $$ [Hw Ht0 Hb0]
  · isplitr; · iexact HR
    isplitl [Hw]; · iexact Hw
    isplitl [Ht0]; · iexact Ht0
    iexact Hb0
  iintro Hw
  iapply (signal_step X K true c (nxt c) (prv_nxt c) _ (by decide) (owed0 c) rfl) $$ [Hw Ht1 Hb1]
  · isplitr; · iexact HR
    isplitl [Hw]; · iexact Hw
    isplitl [Ht1]; · iexact Ht1
    iexact Hb1
  iintro Hw
  iapply (barrier_step X K c _ (by decide) (owed0 c) (owed0_above c (by decide))) $$ [Hw Hc Hat]
  · isplitr; · iexact HR
    isplitr; · iexact HLv
    isplitl [Hc]; · iexact Hc
    isplitl [Hw]; · iexact Hw
    iexact Hat
  iintro ⟨Hw, Hz, Hp0, Hp1⟩
  iapply (wp_load 𝒱₀ (c : Thread nD τ) none Set.univ (m := Memref.whole cc0_stg0_0) (Finset.subset_univ _)) $$ H0; iintro H0
  rw [read_A0]
  rw [wp_ret]; imodintro; iapply Hk
  isplitl [H0]; · iexact H0
  isplitl [H3]; · iexact H3
  isplitl [Hs0]; · iexact Hs0
  isplitl [Hs1]; · iexact Hs1
  isplitl [Hw]; · iexact Hw
  isplitl [Hz]; · iexact Hz
  isplitl [Hp0] <;> iassumption

theorem part2_run {Q : _ → sProp 𝕄} (A0 : Vec F S512x256 .bf16) (A1 : Vec F S256x16 .bf16) (A2 : Vec F S512x2 .i32) (v6 : BitVec 32) (v23 : FVec F S512x256 .bf16) :
    iprop((at0 c A0 ∗ at1 c A1 ∗ at2 c A2) ∗ ((at0 c A0 ∗ at1 c A1 ∗ at2 c A2)
        -∗ Q ⟨lanes, k0_pay4 v23 A1 (col0 A2) (col1 A2), xv A0, k0_pay6 (F := F), Scalar.muli v6 1#32⟩))
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v6 v23) Q := by
  simp only [k0_part2_eq_skeleton]; unfold k0_part2_skel
  simp only [lanes, xv, col0, col1, Prog.lift, Prog.bind_op, Prog.bind_ret, Prog.pure_eq_ret]
  iintro ⟨⟨H0, H1, H2⟩, Hk⟩
  iapply (wp_load 𝒱₀ (c : Thread nD τ) none Set.univ (m := Memref.whole cc0_stg1_0) (Finset.subset_univ _)) $$ H1; iintro H1
  rw [read_A1]
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg0_0) (Finset.subset_univ _)) $$ H0; iintro H0
  rw [read_A0]
  rw [wp_ret]; imodintro; iapply Hk
  isplitl [H0]; · iexact H0
  isplitl [H1]; · iexact H1
  iexact H2

theorem part3_run {Q : _ → sProp 𝕄} (v4 v64 : BitVec 32) (v31 : IVec S512x16 32) (v60 : FVec F S512x16 .f32) :
    iprop((records X K ∗ slotPts X false c 0 fullShare ∗ slotPts X true c 0 fullShare ∗ slotAny false (nb false c) 1 ∗ slotAny true (nb true c) 1 ∗ Ow c (owed0 c) ∗ dutyTok ER (sendCell false 0 c) 0 false ∗ dutyTok ER (recvCell false 0 (nb false c)) 0 false ∗ dutyTok ER (sendCell true 0 c) 0 false ∗ dutyTok ER (recvCell true 0 (nb true c)) 0 false) ∗ ((cred (tallyAt (sendCell false 0 c) () N) ∗ slotPts X false c 0 fullShare.left ∗ cred (tallyAt (sendCell true 0 c) () N) ∗ Ow c (owed1 c) ∗ slotPts X true c 0 fullShare.left) -∗ Q ⟨mu c 4#32, mu c 0#32, k0_pay7 (my c) v31 v60⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (my c) v4 v31 v60 v64) Q := by
  simp only [k0_part3_eq_skeleton]; unfold k0_part3_skel
  simp only [Prog.lift, Prog.bind_op, Prog.bind_ret, Prog.pure_eq_ret]
  iintro ⟨⟨#HR, HF_false_0, HF_true_0, Hany_false_1, Hany_true_1, Hw, Hts_false_0, Htr_false_0, Hts_true_0, Htr_true_0⟩, Hk⟩
  iapply (send_step X K false 0 c _ (dev3_eq c) _ rfl _ rfl _ _ rfl rfl ((owed1 c + due true 0 c)) rfl) $$ [HF_false_0 Hany_false_1 Hw Hts_false_0 Htr_false_0]
  · isplitr; · iexact HR
    isplitl [HF_false_0]; · iexact HF_false_0
    isplitl [Hany_false_1]; · iexact Hany_false_1
    isplitl [Hw]; · iexact Hw
    isplitl [Hts_false_0]; · iexact Hts_false_0
    iexact Htr_false_0
  iintro ⟨Hcs_false_0, Hw, HH_false_0⟩
  iapply (send_step X K true 0 c _ (dev4_eq c) _ rfl _ rfl _ _ rfl rfl ((owed1 c)) rfl) $$ [HF_true_0 Hany_true_1 Hw Hts_true_0 Htr_true_0]
  · isplitr; · iexact HR
    isplitl [HF_true_0]; · iexact HF_true_0
    isplitl [Hany_true_1]; · iexact Hany_true_1
    isplitl [Hw]; · iexact Hw
    isplitl [Hts_true_0]; · iexact Hts_true_0
    iexact Htr_true_0
  iintro ⟨Hcs_true_0, Hw, HH_true_0⟩
  rw [wp_ret]; imodintro; iapply Hk
  isplitl [Hcs_false_0]; · iexact Hcs_false_0
  isplitl [HH_false_0]; · iexact HH_false_0
  isplitl [Hcs_true_0]; · iexact Hcs_true_0
  isplitl [Hw]; · iexact Hw
  iexact HH_true_0

theorem part4_run {Q : _ → sProp 𝕄} (v31 : IVec S512x16 32) (v60 : FVec F S512x16 .f32) (v62 : FVec F S512x256 .bf16) (v63 : FVec F S512x512 .f32) (v85 v87 : BitVec 32) (v94 : FVec F S512x16 .f32) :
    iprop((slotPts X false c 0 fullShare.left ∗ slotPts X true c 0 fullShare.left) ∗ ((slotPts X false c 0 fullShare.left ∗ slotPts X true c 0 fullShare.left) -∗ Q ⟨k0_pay8 v31 v60 v62 v63 v85 v94 (expert X false c 0 0) (expert X false c 0 1), k0_pay9 v31 v60 v87, k0_pay10 v62 (expert X true c 0 0)⟩))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v31 v60 v62 v63 v85 v87 v94) Q := by
  simp only [k0_part4_eq_skeleton]; unfold k0_part4_skel
  simp only [Prog.lift, Prog.bind_op, Prog.bind_ret, Prog.pure_eq_ret]
  iintro ⟨⟨HH_false_0, HH_true_0⟩, Hk⟩
  iapply (load_step X false 0 0 c fullShare.left _ rfl _ rfl) $$ HH_false_0; iintro HH_false_0
  iapply (load_step X false 0 1 c fullShare.left _ rfl _ rfl) $$ HH_false_0; iintro HH_false_0
  iapply (load_step X true 0 0 c fullShare.left _ rfl _ rfl) $$ HH_true_0; iintro HH_true_0
  rw [wp_ret]; imodintro; iapply Hk
  isplitl [HH_false_0]; · iexact HH_false_0
  iexact HH_true_0

theorem part5_run {Q : _ → sProp 𝕄} (v4 v6 : BitVec 32) (v31 : IVec S512x16 32) (v60 : FVec F S512x16 .f32) (v62 : FVec F S512x256 .bf16) (v87 : BitVec 32) (v117 : FVec F S512x512 .f32) (v126 : FVec F S512x1 .f32) (v129 : FVec F S512x512 .f32) :
    iprop((records X K ∗ levAts L lv ∗ slotPts X true c 0 fullShare.left ∗ cred (tallyAt (recvCell false 0 c) () N) ∗ Ow c (owed1 c) ∗ atPos ER (recvCell false 0 c) 0 ∅ 0) ∗ ((slotPts X true c 0 fullShare.left ∗ Ow c (owed1 c) ∗ semVal (recvCell false 0 c) 0 ∗ slotPts X false c 1 fullShare) -∗ Q (k0_pay11 v31 v60 v62 v87 v117 v126 v129 (expert X true c 0 1))))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v4 v6 v31 v60 v62 v87 v117 v126 v129) Q := by
  simp only [k0_part5_eq_skeleton]; unfold k0_part5_skel
  simp only [Prog.lift, Prog.bind_op, Prog.bind_ret, Prog.pure_eq_ret]
  iintro ⟨⟨#HR, #HLv, HH_true_0, Hcr_false_0, Hw, Har_false_0⟩, Hk⟩
  iapply (load_step X true 0 1 c fullShare.left _ rfl _ rfl) $$ HH_true_0; iintro HH_true_0
  iapply (recv_step X K false 0 c _ _ (credit_slot false 1) _ rfl ((owed1 c)) (owed1_above c (by decide))) $$ [Hcr_false_0 Hw Har_false_0]
  · isplitr; · iexact HR
    isplitr; · iexact HLv
    isplitl [Hcr_false_0]; · iexact Hcr_false_0
    isplitl [Hw]; · iexact Hw
    iexact Har_false_0
  iintro ⟨Hw, Hzr_false_0, HF_false_1⟩
  rw [wp_ret]; imodintro; iapply Hk
  isplitl [HH_true_0]; · iexact HH_true_0
  isplitl [Hw]; · iexact Hw
  isplitl [Hzr_false_0]; · iexact Hzr_false_0
  iexact HF_false_1

theorem part6_run {Q : _ → sProp 𝕄} (v4 v6 : BitVec 32) :
    iprop((records X K ∗ levAts L lv ∗ cred (tallyAt (recvCell true 0 c) () N) ∗ atPos ER (recvCell true 0 c) 0 ∅ 0 ∗ Ow c (owed1 c) ∗ slotPts X false c 1 fullShare ∗ slotAny false (nb false c) 2 ∗ slotAny true (nb true c) 2 ∗ dutyTok ER (sendCell false 1 c) 0 false ∗ dutyTok ER (recvCell false 1 (nb false c)) 0 false ∗ dutyTok ER (sendCell true 1 c) 0 false ∗ dutyTok ER (recvCell true 1 (nb true c)) 0 false) ∗ ((semVal (recvCell true 0 c) 0 ∗ cred (tallyAt (sendCell false 1 c) () N) ∗ slotPts X false c 1 fullShare.left ∗ cred (tallyAt (sendCell true 1 c) () N) ∗ Ow c (owed2 c) ∗ slotPts X true c 1 fullShare.left) -∗ Q (mu c 3#32)))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (my c) v4 v6) Q := by
  simp only [k0_part6_eq_skeleton]; unfold k0_part6_skel
  simp only [Prog.lift, Prog.bind_op, Prog.bind_ret, Prog.pure_eq_ret]
  iintro ⟨⟨#HR, #HLv, Hcr_true_0, Har_true_0, Hw, HF_false_1, Hany_false_2, Hany_true_2, Hts_false_1, Htr_false_1, Hts_true_1, Htr_true_1⟩, Hk⟩
  iapply (recv_step X K true 0 c _ _ (credit_slot true 1) _ rfl ((owed1 c)) (owed1_above c (by decide))) $$ [Hcr_true_0 Hw Har_true_0]
  · isplitr; · iexact HR
    isplitr; · iexact HLv
    isplitl [Hcr_true_0]; · iexact Hcr_true_0
    isplitl [Hw]; · iexact Hw
    iexact Har_true_0
  iintro ⟨Hw, Hzr_true_0, HF_true_1⟩
  iapply (send_step X K false 1 c _ (dev5_eq c) _ rfl _ rfl _ _ rfl rfl ((owed2 c + due true 1 c)) rfl) $$ [HF_false_1 Hany_false_2 Hw Hts_false_1 Htr_false_1]
  · isplitr; · iexact HR
    isplitl [HF_false_1]; · iexact HF_false_1
    isplitl [Hany_false_2]; · iexact Hany_false_2
    isplitl [Hw]; · iexact Hw
    isplitl [Hts_false_1]; · iexact Hts_false_1
    iexact Htr_false_1
  iintro ⟨Hcs_false_1, Hw, HH_false_1⟩
  iapply (send_step X K true 1 c _ (dev6_eq c) _ rfl _ rfl _ _ rfl rfl ((owed2 c)) rfl) $$ [HF_true_1 Hany_true_2 Hw Hts_true_1 Htr_true_1]
  · isplitr; · iexact HR
    isplitl [HF_true_1]; · iexact HF_true_1
    isplitl [Hany_true_2]; · iexact Hany_true_2
    isplitl [Hw]; · iexact Hw
    isplitl [Hts_true_1]; · iexact Hts_true_1
    iexact Htr_true_1
  iintro ⟨Hcs_true_1, Hw, HH_true_1⟩
  rw [wp_ret]; imodintro; iapply Hk
  isplitl [Hzr_true_0]; · iexact Hzr_true_0
  isplitl [Hcs_false_1]; · iexact Hcs_false_1
  isplitl [HH_false_1]; · iexact HH_false_1
  isplitl [Hcs_true_1]; · iexact Hcs_true_1
  isplitl [Hw]; · iexact Hw
  iexact HH_true_1

theorem part7_run {Q : _ → sProp 𝕄} (v31 : IVec S512x16 32) (v60 : FVec F S512x16 .f32) (v62 : FVec F S512x256 .bf16) (v147 : FVec F S512x512 .f32) (v185 : BitVec 32) :
    iprop((slotPts X false c 1 fullShare.left) ∗ ((slotPts X false c 1 fullShare.left) -∗ Q ⟨mu c 1#32, k0_pay12 v31 v60 v62 v147 v185 (expert X false c 1 0) (expert X false c 1 1), Scalar.addi (Scalar.addi (Scalar.muli (mu c 1#32) 4#32) 2#32) 0#32⟩))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (my c) v31 v60 v62 v147 v185) Q := by
  simp only [k0_part7_eq_skeleton]; unfold k0_part7_skel
  simp only [Prog.lift, Prog.bind_op, Prog.bind_ret, Prog.pure_eq_ret]
  iintro ⟨HH_false_1, Hk⟩
  iapply (load_step X false 1 0 c fullShare.left _ rfl _ rfl) $$ HH_false_1; iintro HH_false_1
  iapply (load_step X false 1 1 c fullShare.left _ rfl _ rfl) $$ HH_false_1; iintro HH_false_1
  rw [wp_ret]; imodintro; iapply Hk
  iexact HH_false_1

theorem part8_run {Q : _ → sProp 𝕄} (v6 : BitVec 32) (v31 : IVec S512x16 32) (v60 : FVec F S512x16 .f32) (v62 : FVec F S512x256 .bf16) (v187 : BitVec 32) (v217 : FVec F S512x512 .f32) (v220 : BitVec 32) :
    iprop((slotPts X true c 1 fullShare.left) ∗ ((slotPts X true c 1 fullShare.left) -∗ Q (k0_pay13 v31 v60 v62 v187 v217 v220 (expert X true c 1 0) (expert X true c 1 1))))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v6 v31 v60 v62 v187 v217 v220) Q := by
  simp only [k0_part8_eq_skeleton]; unfold k0_part8_skel
  simp only [Prog.lift, Prog.bind_op, Prog.bind_ret, Prog.pure_eq_ret]
  iintro ⟨HH_true_1, Hk⟩
  iapply (load_step X true 1 0 c fullShare.left _ rfl _ rfl) $$ HH_true_1; iintro HH_true_1
  iapply (load_step X true 1 1 c fullShare.left _ rfl _ rfl) $$ HH_true_1; iintro HH_true_1
  rw [wp_ret]; imodintro; iapply Hk
  iexact HH_true_1

theorem part9_run {Q : _ → sProp 𝕄} (v4 v6 : BitVec 32) :
    iprop((records X K ∗ levAts L lv ∗ cred (tallyAt (recvCell false 1 c) () N) ∗ atPos ER (recvCell false 1 c) 0 ∅ 0 ∗ cred (tallyAt (recvCell true 1 c) () N) ∗ atPos ER (recvCell true 1 c) 0 ∅ 0 ∗ Ow c (owed2 c) ∗ slotAny false (nb false c) 3 ∗ dutyTok ER (sendCell false 2 c) 0 false ∗ dutyTok ER (recvCell false 2 (nb false c)) 0 false) ∗ ((semVal (recvCell false 1 c) 0 ∗ semVal (recvCell true 1 c) 0 ∗ slotPts X true c 2 fullShare ∗ cred (tallyAt (sendCell false 2 c) () N) ∗ Ow c (due true 2 c) ∗ slotPts X false c 2 fullShare.left) -∗ Q ⟨⟩))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c v4 v6) Q := by
  simp only [k0_part9_eq_skeleton]; unfold k0_part9_skel
  simp only [Prog.lift, Prog.bind_op, Prog.bind_ret, Prog.pure_eq_ret]
  iintro ⟨⟨#HR, #HLv, Hcr_false_1, Har_false_1, Hcr_true_1, Har_true_1, Hw, Hany_false_3, Hts_false_2, Htr_false_2⟩, Hk⟩
  iapply (recv_step X K false 1 c _ _ (credit_slot false 2) _ rfl ((owed2 c)) (owed2_above c (by decide))) $$ [Hcr_false_1 Hw Har_false_1]
  · isplitr; · iexact HR
    isplitr; · iexact HLv
    isplitl [Hcr_false_1]; · iexact Hcr_false_1
    isplitl [Hw]; · iexact Hw
    iexact Har_false_1
  iintro ⟨Hw, Hzr_false_1, HF_false_2⟩
  iapply (recv_step X K true 1 c _ _ (credit_slot true 2) _ rfl ((owed2 c)) (owed2_above c (by decide))) $$ [Hcr_true_1 Hw Har_true_1]
  · isplitr; · iexact HR
    isplitr; · iexact HLv
    isplitl [Hcr_true_1]; · iexact Hcr_true_1
    isplitl [Hw]; · iexact Hw
    iexact Har_true_1
  iintro ⟨Hw, Hzr_true_1, HF_true_2⟩
  iapply (send_step X K false 2 c _ (dev7_eq c) _ rfl _ rfl _ _ rfl rfl ((due true 2 c)) rfl) $$ [HF_false_2 Hany_false_3 Hw Hts_false_2 Htr_false_2]
  · isplitr; · iexact HR
    isplitl [HF_false_2]; · iexact HF_false_2
    isplitl [Hany_false_3]; · iexact Hany_false_3
    isplitl [Hw]; · iexact Hw
    isplitl [Hts_false_2]; · iexact Hts_false_2
    iexact Htr_false_2
  iintro ⟨Hcs_false_2, Hw, HH_false_2⟩
  rw [wp_ret]; imodintro; iapply Hk
  isplitl [Hzr_false_1]; · iexact Hzr_false_1
  isplitl [Hzr_true_1]; · iexact Hzr_true_1
  isplitl [HF_true_2]; · iexact HF_true_2
  isplitl [Hcs_false_2]; · iexact Hcs_false_2
  isplitl [Hw]; · iexact Hw
  iexact HH_false_2

theorem part10_run {Q : _ → sProp 𝕄} (v31 : IVec S512x16 32) (v60 : FVec F S512x16 .f32) (v62 : FVec F S512x256 .bf16) (v247 : FVec F S512x512 .f32) :
    iprop((records X K ∗ slotPts X true c 2 fullShare ∗ slotAny true (nb true c) 3 ∗ Ow c (due true 2 c) ∗ dutyTok ER (sendCell true 2 c) 0 false ∗ dutyTok ER (recvCell true 2 (nb true c)) 0 false ∗ slotPts X false c 2 fullShare.left) ∗ ((slotPts X false c 2 fullShare.left ∗ cred (tallyAt (sendCell true 2 c) () N) ∗ Ow c 0 ∗ slotPts X true c 2 fullShare.left) -∗ Q ⟨mu c 2#32, k0_pay14 (my c) v31 v60 v62 v247 (expert X false c 2 0), k0_pay15 (my c) v31 v60⟩))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 c (my c) v31 v60 v62 v247) Q := by
  simp only [k0_part10_eq_skeleton]; unfold k0_part10_skel
  simp only [Prog.lift, Prog.bind_op, Prog.bind_ret, Prog.pure_eq_ret]
  iintro ⟨⟨#HR, HF_true_2, Hany_true_3, Hw, Hts_true_2, Htr_true_2, HH_false_2⟩, Hk⟩
  iapply (send_step X K true 2 c _ (dev8_eq c) _ rfl _ rfl _ _ rfl rfl (0) (zero_add _).symm) $$ [HF_true_2 Hany_true_3 Hw Hts_true_2 Htr_true_2]
  · isplitr; · iexact HR
    isplitl [HF_true_2]; · iexact HF_true_2
    isplitl [Hany_true_3]; · iexact Hany_true_3
    isplitl [Hw]; · iexact Hw
    isplitl [Hts_true_2]; · iexact Hts_true_2
    iexact Htr_true_2
  iintro ⟨Hcs_true_2, Hw, HH_true_2⟩
  iapply (load_step X false 2 0 c fullShare.left _ rfl _ rfl) $$ HH_false_2; iintro HH_false_2
  rw [wp_ret]; imodintro; iapply Hk
  isplitl [HH_false_2]; · iexact HH_false_2
  isplitl [Hcs_true_2]; · iexact Hcs_true_2
  isplitl [Hw]; · iexact Hw
  iexact HH_true_2

theorem part11_run {Q : _ → sProp 𝕄} (v31 : IVec S512x16 32) (v60 : FVec F S512x16 .f32) (v62 : FVec F S512x256 .bf16) (v287 : BitVec 32) (v302 : FVec F S512x512 .f32) (v311 : FVec F S512x1 .f32) :
    iprop((slotPts X false c 2 fullShare.left ∗ slotPts X true c 2 fullShare.left) ∗ ((slotPts X false c 2 fullShare.left ∗ slotPts X true c 2 fullShare.left) -∗ Q (k0_pay16 v31 v60 v62 v287 v302 v311 (expert X false c 2 1) (expert X true c 2 0) (expert X true c 2 1))))
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v31 v60 v62 v287 v302 v311) Q := by
  simp only [k0_part11_eq_skeleton]; unfold k0_part11_skel
  simp only [Prog.lift, Prog.bind_op, Prog.bind_ret, Prog.pure_eq_ret]
  iintro ⟨⟨HH_false_2, HH_true_2⟩, Hk⟩
  iapply (load_step X false 2 1 c fullShare.left _ rfl _ rfl) $$ HH_false_2; iintro HH_false_2
  iapply (load_step X true 2 0 c fullShare.left _ rfl _ rfl) $$ HH_true_2; iintro HH_true_2
  iapply (load_step X true 2 1 c fullShare.left _ rfl _ rfl) $$ HH_true_2; iintro HH_true_2
  rw [wp_ret]; imodintro; iapply Hk
  isplitl [HH_false_2]; · iexact HH_false_2
  iexact HH_true_2

theorem part12_run {Q : _ → sProp 𝕄} (v4 v6 : BitVec 32) (v31 : IVec S512x16 32) :
    iprop((records X K ∗ levAts L lv ∗ cred (tallyAt (recvCell false 2 c) () N) ∗ atPos ER (recvCell false 2 c) 0 ∅ 0 ∗ cred (tallyAt (recvCell true 2 c) () N) ∗ atPos ER (recvCell true 2 c) 0 ∅ 0 ∗ Ow c 0) ∗ ((semVal (recvCell false 2 c) 0 ∗ slotPts X false c 3 fullShare ∗ Ow c 0 ∗ semVal (recvCell true 2 c) 0 ∗ slotPts X true c 3 fullShare) -∗ Q ⟨mu c 1#32, mu c 3#32, k0_pay17 (my c) v31, k0_pay18 (F := F)⟩))
      ⊢ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 (my c) v4 v6 v31) Q := by
  simp only [k0_part12_eq_skeleton]; unfold k0_part12_skel
  simp only [Prog.lift, Prog.bind_op, Prog.bind_ret, Prog.pure_eq_ret]
  iintro ⟨⟨#HR, #HLv, Hcr_false_2, Har_false_2, Hcr_true_2, Har_true_2, Hw⟩, Hk⟩
  iapply (recv_step X K false 2 c _ _ (credit_slot false 3) _ rfl (0) (Above.zero _)) $$ [Hcr_false_2 Hw Har_false_2]
  · isplitr; · iexact HR
    isplitr; · iexact HLv
    isplitl [Hcr_false_2]; · iexact Hcr_false_2
    isplitl [Hw]; · iexact Hw
    iexact Har_false_2
  iintro ⟨Hw, Hzr_false_2, HF_false_3⟩
  iapply (recv_step X K true 2 c _ _ (credit_slot true 3) _ rfl (0) (Above.zero _)) $$ [Hcr_true_2 Hw Har_true_2]
  · isplitr; · iexact HR
    isplitr; · iexact HLv
    isplitl [Hcr_true_2]; · iexact Hcr_true_2
    isplitl [Hw]; · iexact Hw
    iexact Har_true_2
  iintro ⟨Hw, Hzr_true_2, HF_true_3⟩
  rw [wp_ret]; imodintro; iapply Hk
  isplitl [Hzr_false_2]; · iexact Hzr_false_2
  isplitl [HF_false_3]; · iexact HF_false_3
  isplitl [Hw]; · iexact Hw
  isplitl [Hzr_true_2]; · iexact Hzr_true_2
  iexact HF_true_3

theorem part13_run {Q : _ → sProp 𝕄} (v31 : IVec S512x16 32) (v60 : FVec F S512x16 .f32) (v62 : FVec F S512x256 .bf16) (v347 : FVec F S512x512 .f32) (v365 v367 : BitVec 32) (v372 : IVec S512x16 1) (v373 : FVec F S512x16 .f32) :
    iprop((slotPts X false c 3 fullShare ∗ slotPts X true c 3 fullShare) ∗ ((slotPts X false c 3 fullShare ∗ slotPts X true c 3 fullShare) -∗ Q ⟨k0_pay19 v31 v60 v62 v347 v365 v372 v373 (expert X false c 3 0) (expert X false c 3 1), k0_pay20 v31 v60 v367, k0_pay21 (expert X true c 3 0)⟩))
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v31 v60 v62 v347 v365 v367 v372 v373) Q := by
  simp only [k0_part13_eq_skeleton]; unfold k0_part13_skel
  simp only [Prog.lift, Prog.bind_op, Prog.bind_ret, Prog.pure_eq_ret]
  iintro ⟨⟨HF_false_3, HF_true_3⟩, Hk⟩
  iapply (load_step X false 3 0 c fullShare _ rfl _ rfl) $$ HF_false_3; iintro HF_false_3
  iapply (load_step X false 3 1 c fullShare _ rfl _ rfl) $$ HF_false_3; iintro HF_false_3
  iapply (load_step X true 3 0 c fullShare _ rfl _ rfl) $$ HF_true_3; iintro HF_true_3
  rw [wp_ret]; imodintro; iapply Hk
  isplitl [HF_false_3]; · iexact HF_false_3
  iexact HF_true_3

theorem part14_run {Q : _ → sProp 𝕄} (v31 : IVec S512x16 32) (v60 : FVec F S512x16 .f32) (v62 : FVec F S512x256 .bf16) (v367 : BitVec 32) (v397 : FVec F S512x512 .f32) (v406 : FVec F S512x1 .f32) (v408 : FVec F S256x512 .bf16) :
    iprop((records X K ∗ slotPts X true c 3 fullShare ∗ cred (tallyAt (sendCell false 0 c) () N) ∗ Ow c 0 ∗ atPos ER (sendCell false 0 c) 0 ∅ 0 ∗ slotPts X false c 0 fullShare.left) ∗ ((slotPts X true c 3 fullShare ∗ Ow c 0 ∗ semVal (sendCell false 0 c) 0 ∗ slotPts X false c 0 fullShare) -∗ Q (k0_pay22 v31 v60 v62 v367 v397 v406 v408 (expert X true c 3 1))))
      ⊢ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 v31 v60 v62 v367 v397 v406 v408) Q := by
  simp only [k0_part14_eq_skeleton]; unfold k0_part14_skel
  simp only [Prog.lift, Prog.bind_op, Prog.bind_ret, Prog.pure_eq_ret]
  iintro ⟨⟨#HR, HF_true_3, Hcs_false_0, Hw, Has_false_0, HH_false_0⟩, Hk⟩
  iapply (load_step X true 3 1 c fullShare _ rfl _ rfl) $$ HF_true_3; iintro HF_true_3
  iapply (sent_step X K false 0 c _ _ (credit_slot false 0) _ rfl) $$ [Hcs_false_0 Hw Has_false_0 HH_false_0]
  · isplitr; · iexact HR
    isplitl [Hcs_false_0]; · iexact Hcs_false_0
    isplitl [Hw]; · iexact Hw
    isplitl [Has_false_0]; · iexact Has_false_0
    iexact HH_false_0
  iintro ⟨Hw, Hzs_false_0, HF_false_0⟩
  rw [wp_ret]; imodintro; iapply Hk
  isplitl [HF_true_3]; · iexact HF_true_3
  isplitl [Hw]; · iexact Hw
  isplitl [Hzs_false_0]; · iexact Hzs_false_0
  iexact HF_false_0

theorem part15_run {Q : _ → sProp 𝕄}  :
    iprop((records X K ∗ cred (tallyAt (sendCell true 0 c) () N) ∗ atPos ER (sendCell true 0 c) 0 ∅ 0 ∗ slotPts X true c 0 fullShare.left ∗ cred (tallyAt (sendCell false 1 c) () N) ∗ atPos ER (sendCell false 1 c) 0 ∅ 0 ∗ slotPts X false c 1 fullShare.left ∗ cred (tallyAt (sendCell true 1 c) () N) ∗ atPos ER (sendCell true 1 c) 0 ∅ 0 ∗ slotPts X true c 1 fullShare.left ∗ cred (tallyAt (sendCell false 2 c) () N) ∗ atPos ER (sendCell false 2 c) 0 ∅ 0 ∗ slotPts X false c 2 fullShare.left ∗ Ow c 0) ∗ ((semVal (sendCell true 0 c) 0 ∗ slotPts X true c 0 fullShare ∗ semVal (sendCell false 1 c) 0 ∗ slotPts X false c 1 fullShare ∗ semVal (sendCell true 1 c) 0 ∗ slotPts X true c 1 fullShare ∗ Ow c 0 ∗ semVal (sendCell false 2 c) 0 ∗ slotPts X false c 2 fullShare) -∗ Q ⟨⟩))
      ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 ) Q := by
  simp only [k0_part15_eq_skeleton]; unfold k0_part15_skel
  simp only [Prog.lift, Prog.bind_op, Prog.bind_ret, Prog.pure_eq_ret]
  iintro ⟨⟨#HR, Hcs_true_0, Has_true_0, HH_true_0, Hcs_false_1, Has_false_1, HH_false_1, Hcs_true_1, Has_true_1, HH_true_1, Hcs_false_2, Has_false_2, HH_false_2, Hw⟩, Hk⟩
  iapply (sent_step X K true 0 c _ _ (credit_slot true 0) _ rfl) $$ [Hcs_true_0 Hw Has_true_0 HH_true_0]
  · isplitr; · iexact HR
    isplitl [Hcs_true_0]; · iexact Hcs_true_0
    isplitl [Hw]; · iexact Hw
    isplitl [Has_true_0]; · iexact Has_true_0
    iexact HH_true_0
  iintro ⟨Hw, Hzs_true_0, HF_true_0⟩
  iapply (sent_step X K false 1 c _ _ (credit_slot false 1) _ rfl) $$ [Hcs_false_1 Hw Has_false_1 HH_false_1]
  · isplitr; · iexact HR
    isplitl [Hcs_false_1]; · iexact Hcs_false_1
    isplitl [Hw]; · iexact Hw
    isplitl [Has_false_1]; · iexact Has_false_1
    iexact HH_false_1
  iintro ⟨Hw, Hzs_false_1, HF_false_1⟩
  iapply (sent_step X K true 1 c _ _ (credit_slot true 1) _ rfl) $$ [Hcs_true_1 Hw Has_true_1 HH_true_1]
  · isplitr; · iexact HR
    isplitl [Hcs_true_1]; · iexact Hcs_true_1
    isplitl [Hw]; · iexact Hw
    isplitl [Has_true_1]; · iexact Has_true_1
    iexact HH_true_1
  iintro ⟨Hw, Hzs_true_1, HF_true_1⟩
  iapply (sent_step X K false 2 c _ _ (credit_slot false 2) _ rfl) $$ [Hcs_false_2 Hw Has_false_2 HH_false_2]
  · isplitr; · iexact HR
    isplitl [Hcs_false_2]; · iexact Hcs_false_2
    isplitl [Hw]; · iexact Hw
    isplitl [Has_false_2]; · iexact Has_false_2
    iexact HH_false_2
  iintro ⟨Hw, Hzs_false_2, HF_false_2⟩
  rw [wp_ret]; imodintro; iapply Hk
  isplitl [Hzs_true_0]; · iexact Hzs_true_0
  isplitl [HF_true_0]; · iexact HF_true_0
  isplitl [Hzs_false_1]; · iexact Hzs_false_1
  isplitl [HF_false_1]; · iexact HF_false_1
  isplitl [Hzs_true_1]; · iexact Hzs_true_1
  isplitl [HF_true_1]; · iexact HF_true_1
  isplitl [Hw]; · iexact Hw
  isplitl [Hzs_false_2]; · iexact Hzs_false_2
  iexact HF_false_2

end Parts

/-! ## The body -/

section Run
variable (X : Wts F) (K : Dev nD × Fin 13 → ℕ) (c : Dev nD)

/-- The tokens of everything device `c` pays: two signals, six copies at both ends. -/
def payToks : sProp 𝕄 := iprop(dutyTok ER (barCell (prv c)) 0 false ∗ dutyTok ER (barCell (nxt c)) 0 true ∗ dutyTok ER (sendCell false 0 c) 0 false ∗ dutyTok ER (sendCell false 1 c) 0 false ∗ dutyTok ER (sendCell false 2 c) 0 false ∗ dutyTok ER (sendCell true 0 c) 0 false ∗ dutyTok ER (sendCell true 1 c) 0 false ∗ dutyTok ER (sendCell true 2 c) 0 false ∗ dutyTok ER (recvCell false 0 (nb false c)) 0 false ∗ dutyTok ER (recvCell false 1 (nb false c)) 0 false ∗ dutyTok ER (recvCell false 2 (nb false c)) 0 false ∗ dutyTok ER (recvCell true 0 (nb true c)) 0 false ∗ dutyTok ER (recvCell true 1 (nb true c)) 0 false ∗ dutyTok ER (recvCell true 2 (nb true c)) 0 false)
/-- The credit device `c` waits with. -/
def creds : sProp 𝕄 := iprop(cred (tallyAt (barCell c) () 2) ∗ cred (tallyAt (recvCell false 0 c) () N) ∗ cred (tallyAt (recvCell false 1 c) () N) ∗ cred (tallyAt (recvCell false 2 c) () N) ∗ cred (tallyAt (recvCell true 0 c) () N) ∗ cred (tallyAt (recvCell true 1 c) () N) ∗ cred (tallyAt (recvCell true 2 c) () N))
/-- Device `c`'s positions on its own cells. -/
def positions : sProp 𝕄 := iprop(atPos ER (barCell c) 0 ∅ 0 ∗ atPos ER (sendCell false 0 c) 0 ∅ 0 ∗ atPos ER (sendCell false 1 c) 0 ∅ 0 ∗ atPos ER (sendCell false 2 c) 0 ∅ 0 ∗ atPos ER (sendCell true 0 c) 0 ∅ 0 ∗ atPos ER (sendCell true 1 c) 0 ∅ 0 ∗ atPos ER (sendCell true 2 c) 0 ∅ 0 ∗ atPos ER (recvCell false 0 c) 0 ∅ 0 ∗ atPos ER (recvCell false 1 c) 0 ∅ 0 ∗ atPos ER (recvCell false 2 c) 0 ∅ 0 ∗ atPos ER (recvCell true 0 c) 0 ∅ 0 ∗ atPos ER (recvCell true 1 c) 0 ∅ 0 ∗ atPos ER (recvCell true 2 c) 0 ∅ 0)
/-- All slots of device `c`, full, at their final contents. -/
def allSlots : sProp 𝕄 := iprop(slotPts X false c 0 fullShare ∗ slotPts X false c 1 fullShare ∗ slotPts X false c 2 fullShare ∗ slotPts X false c 3 fullShare ∗ slotPts X true c 0 fullShare ∗ slotPts X true c 1 fullShare ∗ slotPts X true c 2 fullShare ∗ slotPts X true c 3 fullShare)
/-- All of device `c`'s semaphores at zero. -/
def zeros : sProp 𝕄 := iprop(semVal (barCell c) 0 ∗ semVal (sendCell false 0 c) 0 ∗ semVal (sendCell false 1 c) 0 ∗ semVal (sendCell false 2 c) 0 ∗ semVal (sendCell true 0 c) 0 ∗ semVal (sendCell true 1 c) 0 ∗ semVal (sendCell true 2 c) 0 ∗ semVal (recvCell false 0 c) 0 ∗ semVal (recvCell false 1 c) 0 ∗ semVal (recvCell false 2 c) 0 ∗ semVal (recvCell true 0 c) 0 ∗ semVal (recvCell true 1 c) 0 ∗ semVal (recvCell true 2 c) 0)
/-- The scratch buffers as the body finds them. -/
def rawSlots : sProp 𝕄 := iprop(slotAny false c 0 ∗ slotAny true c 0 ∗ barPay false c ∗ barPay true c)

set_option maxHeartbeats 1600000 in
/-- The whole body: from the launch's resources to every slot filled, every semaphore at zero and the result stored. -/
theorem body_run {Q : _ → sProp 𝕄} (A0 : Vec F S512x256 .bf16) (A1 : Vec F S256x16 .bf16) (A2 : Vec F S512x2 .i32) (A4 : Vec F S512x512 .f32) :
    iprop((records X K ∗ levAts L lv ∗ (at0 c A0 ∗ at1 c A1 ∗ at2 c A2 ∗ at3 c (X c)) ∗ at4 c A4 ∗ rawSlots c ∗ Ow c (owedAll c) ∗ payToks c ∗ creds c ∗ positions c)
      ∗ (((at0 c A0 ∗ at1 c A1 ∗ at2 c A2 ∗ at3 c (X c)) ∗ at4 c (out X c A0 A1 A2) ∗ allSlots X c ∗ Ow c 0 ∗ zeros c) -∗ Q ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5 ) Q := by
  rw [cc0_body_eq_skeleton]; unfold cc0_body_skel
  simp only [Prog.lift, Prog.bind_op, Prog.bind_ret, Prog.pure_eq_ret]
  unfold rawSlots payToks creds positions
  iintro ⟨⟨#HR, #HLv, ⟨HA0, HA1, HA2, HA3⟩, HA4, ⟨Hsa_false, Hsa_true, Hbp_false, Hbp_true⟩, Hw, ⟨Htb_false, Htb_true, Hts_false_0, Hts_false_1, Hts_false_2, Hts_true_0, Hts_true_1, Hts_true_2, Htr_false_0, Htr_false_1, Htr_false_2, Htr_true_0, Htr_true_1, Htr_true_2⟩, ⟨Hcb, Hcr_false_0, Hcr_false_1, Hcr_false_2, Hcr_true_0, Hcr_true_1, Hcr_true_2⟩, ⟨Hab, Has_false_0, Has_false_1, Has_false_2, Has_true_0, Has_true_1, Has_true_2, Har_false_0, Har_false_1, Har_false_2, Har_true_0, Har_true_1, Har_true_2⟩⟩, Hk⟩
  rw [wp_bind]
  iapply (part1_run X K c A0)
  isplitl [HA0 HA3 Hsa_false Hsa_true Hbp_false Hbp_true Hw Htb_false Htb_true Hcb Hab]
  · isplitr; · iexact HR
    isplitr; · iexact HLv
    isplitl [HA0]; · iexact HA0
    isplitl [HA3]; · iexact HA3
    isplitl [Hsa_false]; · iexact Hsa_false
    isplitl [Hsa_true]; · iexact Hsa_true
    isplitl [Hbp_false]; · iexact Hbp_false
    isplitl [Hbp_true]; · iexact Hbp_true
    isplitl [Hw]; · iexact Hw
    isplitl [Htb_false]; · iexact Htb_false
    isplitl [Htb_true]; · iexact Htb_true
    isplitl [Hcb]; · iexact Hcb
    iexact Hab
  iintro ⟨HA0, HA3, HF_false_0, HF_true_0, Hw, Hzb, Hbpn, Hbpp⟩
  try dsimp only
  unfold barPay
  icases Hbpn with ⟨Hany_false_1, Hany_false_2, Hany_false_3⟩
  icases Hbpp with ⟨Hany_true_1, Hany_true_2, Hany_true_3⟩
  rw [wp_bind]
  iapply (part2_run c A0 A1 A2 _ _)
  isplitl [HA0 HA1 HA2]
  · isplitl [HA0]; · iexact HA0
    isplitl [HA1]; · iexact HA1
    iexact HA2
  iintro ⟨HA0, HA1, HA2⟩
  try dsimp only
  rw [wp_bind]
  iapply (part3_run X K c _ _ _ _)
  isplitl [HF_false_0 HF_true_0 Hany_false_1 Hany_true_1 Hw Hts_false_0 Htr_false_0 Hts_true_0 Htr_true_0]
  · isplitr; · iexact HR
    isplitl [HF_false_0]; · iexact HF_false_0
    isplitl [HF_true_0]; · iexact HF_true_0
    isplitl [Hany_false_1]; · iexact Hany_false_1
    isplitl [Hany_true_1]; · iexact Hany_true_1
    isplitl [Hw]; · iexact Hw
    isplitl [Hts_false_0]; · iexact Hts_false_0
    isplitl [Htr_false_0]; · iexact Htr_false_0
    isplitl [Hts_true_0]; · iexact Hts_true_0
    iexact Htr_true_0
  iintro ⟨Hcs_false_0, HH_false_0, Hcs_true_0, Hw, HH_true_0⟩
  try dsimp only
  rw [wp_bind]
  iapply (part4_run X c _ _ _ _ _ _ _)
  isplitl [HH_false_0 HH_true_0]
  · isplitl [HH_false_0]; · iexact HH_false_0
    iexact HH_true_0
  iintro ⟨HH_false_0, HH_true_0⟩
  try dsimp only
  rw [wp_bind]
  iapply (part5_run X K c _ _ _ _ _ _ _ _ _)
  isplitl [HH_true_0 Hcr_false_0 Hw Har_false_0]
  · isplitr; · iexact HR
    isplitr; · iexact HLv
    isplitl [HH_true_0]; · iexact HH_true_0
    isplitl [Hcr_false_0]; · iexact Hcr_false_0
    isplitl [Hw]; · iexact Hw
    iexact Har_false_0
  iintro ⟨HH_true_0, Hw, Hzr_false_0, HF_false_1⟩
  try dsimp only
  rw [wp_bind]
  iapply (part6_run X K c _ _)
  isplitl [Hcr_true_0 Har_true_0 Hw HF_false_1 Hany_false_2 Hany_true_2 Hts_false_1 Htr_false_1 Hts_true_1 Htr_true_1]
  · isplitr; · iexact HR
    isplitr; · iexact HLv
    isplitl [Hcr_true_0]; · iexact Hcr_true_0
    isplitl [Har_true_0]; · iexact Har_true_0
    isplitl [Hw]; · iexact Hw
    isplitl [HF_false_1]; · iexact HF_false_1
    isplitl [Hany_false_2]; · iexact Hany_false_2
    isplitl [Hany_true_2]; · iexact Hany_true_2
    isplitl [Hts_false_1]; · iexact Hts_false_1
    isplitl [Htr_false_1]; · iexact Htr_false_1
    isplitl [Hts_true_1]; · iexact Hts_true_1
    iexact Htr_true_1
  iintro ⟨Hzr_true_0, Hcs_false_1, HH_false_1, Hcs_true_1, Hw, HH_true_1⟩
  try dsimp only
  rw [wp_bind]
  iapply (part7_run X c _ _ _ _ _)
  isplitl [HH_false_1]
  · iexact HH_false_1
  iintro HH_false_1
  try dsimp only
  rw [wp_bind]
  iapply (part8_run X c _ _ _ _ _ _ _)
  isplitl [HH_true_1]
  · iexact HH_true_1
  iintro HH_true_1
  try dsimp only
  rw [wp_bind]
  iapply (part9_run X K c _ _)
  isplitl [Hcr_false_1 Har_false_1 Hcr_true_1 Har_true_1 Hw Hany_false_3 Hts_false_2 Htr_false_2]
  · isplitr; · iexact HR
    isplitr; · iexact HLv
    isplitl [Hcr_false_1]; · iexact Hcr_false_1
    isplitl [Har_false_1]; · iexact Har_false_1
    isplitl [Hcr_true_1]; · iexact Hcr_true_1
    isplitl [Har_true_1]; · iexact Har_true_1
    isplitl [Hw]; · iexact Hw
    isplitl [Hany_false_3]; · iexact Hany_false_3
    isplitl [Hts_false_2]; · iexact Hts_false_2
    iexact Htr_false_2
  iintro ⟨Hzr_false_1, Hzr_true_1, HF_true_2, Hcs_false_2, Hw, HH_false_2⟩
  try dsimp only
  rw [wp_bind]
  iapply (part10_run X K c _ _ _ _)
  isplitl [HF_true_2 Hany_true_3 Hw Hts_true_2 Htr_true_2 HH_false_2]
  · isplitr; · iexact HR
    isplitl [HF_true_2]; · iexact HF_true_2
    isplitl [Hany_true_3]; · iexact Hany_true_3
    isplitl [Hw]; · iexact Hw
    isplitl [Hts_true_2]; · iexact Hts_true_2
    isplitl [Htr_true_2]; · iexact Htr_true_2
    iexact HH_false_2
  iintro ⟨HH_false_2, Hcs_true_2, Hw, HH_true_2⟩
  try dsimp only
  rw [wp_bind]
  iapply (part11_run X c _ _ _ _ _ _)
  isplitl [HH_false_2 HH_true_2]
  · isplitl [HH_false_2]; · iexact HH_false_2
    iexact HH_true_2
  iintro ⟨HH_false_2, HH_true_2⟩
  try dsimp only
  rw [wp_bind]
  iapply (part12_run X K c _ _ _)
  isplitl [Hcr_false_2 Har_false_2 Hcr_true_2 Har_true_2 Hw]
  · isplitr; · iexact HR
    isplitr; · iexact HLv
    isplitl [Hcr_false_2]; · iexact Hcr_false_2
    isplitl [Har_false_2]; · iexact Har_false_2
    isplitl [Hcr_true_2]; · iexact Hcr_true_2
    isplitl [Har_true_2]; · iexact Har_true_2
    iexact Hw
  iintro ⟨Hzr_false_2, HF_false_3, Hw, Hzr_true_2, HF_true_3⟩
  try dsimp only
  rw [wp_bind]
  iapply (part13_run X c _ _ _ _ _ _ _ _)
  isplitl [HF_false_3 HF_true_3]
  · isplitl [HF_false_3]; · iexact HF_false_3
    iexact HF_true_3
  iintro ⟨HF_false_3, HF_true_3⟩
  try dsimp only
  rw [wp_bind]
  iapply (part14_run X K c _ _ _ _ _ _ _)
  isplitl [HF_true_3 Hcs_false_0 Hw Has_false_0 HH_false_0]
  · isplitr; · iexact HR
    isplitl [HF_true_3]; · iexact HF_true_3
    isplitl [Hcs_false_0]; · iexact Hcs_false_0
    isplitl [Hw]; · iexact Hw
    isplitl [Has_false_0]; · iexact Has_false_0
    iexact HH_false_0
  iintro ⟨HF_true_3, Hw, Hzs_false_0, HF_false_0⟩
  try dsimp only
  rw [wp_bind]
  iapply (part15_run X K c )
  isplitl [Hcs_true_0 Has_true_0 HH_true_0 Hcs_false_1 Has_false_1 HH_false_1 Hcs_true_1 Has_true_1 HH_true_1 Hcs_false_2 Has_false_2 HH_false_2 Hw]
  · isplitr; · iexact HR
    isplitl [Hcs_true_0]; · iexact Hcs_true_0
    isplitl [Has_true_0]; · iexact Has_true_0
    isplitl [HH_true_0]; · iexact HH_true_0
    isplitl [Hcs_false_1]; · iexact Hcs_false_1
    isplitl [Has_false_1]; · iexact Has_false_1
    isplitl [HH_false_1]; · iexact HH_false_1
    isplitl [Hcs_true_1]; · iexact Hcs_true_1
    isplitl [Has_true_1]; · iexact Has_true_1
    isplitl [HH_true_1]; · iexact HH_true_1
    isplitl [Hcs_false_2]; · iexact Hcs_false_2
    isplitl [Has_false_2]; · iexact Has_false_2
    isplitl [HH_false_2]; · iexact HH_false_2
    iexact Hw
  iintro ⟨Hzs_true_0, HF_true_0, Hzs_false_1, HF_false_1, Hzs_true_1, HF_true_1, Hw, Hzs_false_2, HF_false_2⟩
  try dsimp only
  iapply (sent_step X K true 2 c _ _ (credit_slot true 2) _ rfl) $$ [Hcs_true_2 Hw Has_true_2 HH_true_2]
  · isplitr; · iexact HR
    isplitl [Hcs_true_2]; · iexact Hcs_true_2
    isplitl [Hw]; · iexact Hw
    isplitl [Has_true_2]; · iexact Has_true_2
    iexact HH_true_2
  iintro ⟨Hw, Hzs_true_2, HF_true_2⟩
  iapply (wp_load 𝒱₀ (c : Thread nD τ) none Set.univ (m := Memref.whole cc0_stg4_0) (Finset.subset_univ _)) $$ HA4; iintro HA4
  iapply (wp_store 𝒱₀ (c : Thread nD τ) none Set.univ (m := Memref.whole cc0_stg4_0) (r := Rect.unit (s := S512x512) ![0, 0] S512x512.size inb_S512x512_S512x512_0_0) (Mk := Finset.univ) (Finset.subset_univ _)) $$ HA4; iintro HA4
  rw [write_A4, wp_ret]; imodintro
  iapply Hk
  isplitl [HA0 HA1 HA2 HA3]
  · isplitl [HA0]; · iexact HA0
    isplitl [HA1]; · iexact HA1
    isplitl [HA2] <;> iassumption
  isplitl [HA4]; · unfold out acc3a acc2 acc2a acc1 acc1a acc0 acc0a wts; iexact HA4
  unfold allSlots zeros
  isplitl [HF_false_0 HF_false_1 HF_false_2 HF_false_3 HF_true_0 HF_true_1 HF_true_2 HF_true_3]
  · isplitl [HF_false_0]; · iexact HF_false_0
    isplitl [HF_false_1]; · iexact HF_false_1
    isplitl [HF_false_2]; · iexact HF_false_2
    isplitl [HF_false_3]; · iexact HF_false_3
    isplitl [HF_true_0]; · iexact HF_true_0
    isplitl [HF_true_1]; · iexact HF_true_1
    isplitl [HF_true_2]; · iexact HF_true_2
    iexact HF_true_3
  isplitl [Hw]; · iexact Hw
  isplitl [Hzb]; · iexact Hzb
  isplitl [Hzs_false_0]; · iexact Hzs_false_0
  isplitl [Hzs_false_1]; · iexact Hzs_false_1
  isplitl [Hzs_false_2]; · iexact Hzs_false_2
  isplitl [Hzs_true_0]; · iexact Hzs_true_0
  isplitl [Hzs_true_1]; · iexact Hzs_true_1
  isplitl [Hzs_true_2]; · iexact Hzs_true_2
  isplitl [Hzr_false_0]; · iexact Hzr_false_0
  isplitl [Hzr_false_1]; · iexact Hzr_false_1
  isplitl [Hzr_false_2]; · iexact Hzr_false_2
  isplitl [Hzr_true_0]; · iexact Hzr_true_0
  isplitl [Hzr_true_1]; · iexact Hzr_true_1
  iexact Hzr_true_2

end Run

end Cert.Moe

end
-- ==== Proof.Launch.lean ====
/-
The launch: the staging windows, what each device starts from, the cells' records made for all devices at once, and the run
of the whole program from any memory with every semaphore at zero.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The windows -/

/-- What each argument's staging buffer holds once fetched. -/
def in0 (c : Dev nD) : Vec F S512x256 .bf16 := (win0_0.blk t0_0).view.read (Elt F) ((s₀ m ρ).mem ((c : Thread nD τ).loc main_arg0))
def in1 (c : Dev nD) : Vec F S256x16 .bf16 := (win0_1.blk t0_0).view.read (Elt F) ((s₀ m ρ).mem ((c : Thread nD τ).loc main_arg1))
def in2 (c : Dev nD) : Vec F S512x2 .i32 := (win0_2.blk t0_0).view.read (Elt F) ((s₀ m ρ).mem ((c : Thread nD τ).loc main_arg2))
def in3 : Wts F := fun c => (win0_3.blk t0_0).view.read (Elt F) ((s₀ m ρ).mem ((c : Thread nD τ).loc main_arg3))

/-- The result device `c` computes. -/
def res (c : Dev nD) : Vec F S512x512 .f32 := out (in3 m ρ) c (in0 m ρ c) (in1 m ρ c) (in2 m ρ c)

/-- What a device starts from: the records, its positions and tokens, its credit and the level facts. -/
def start (c : Dev nD) : sProp 𝕄 :=
  iprop((∃ K, records (in3 m ρ) K ∗ positions c ∗ payToks c) ∗ creds c ∗ levAts L lv)

def Φ₀ (c : Dev nD) : sProp 𝕄 := iprop(start m ρ c ∗ rawSlots c)
def Φ₁ (c : Dev nD) : sProp 𝕄 := iprop(allSlots (in3 m ρ) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => res m ρ c
  Φ t := match t with
    | ⟨0, _⟩ => Φ₀ m ρ c
    | ⟨_ + 1, _⟩ => Φ₁ m ρ c
  q _ := fullShare
  owed t := match t with
    | ⟨0, _⟩ => owedAll c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ ∗ stg c cc0_stg0_0 (in0 m ρ c) ∗ stg c cc0_stg1_0 (in1 m ρ c)
    ∗ stg c cc0_stg2_0 (in2 m ρ c) ∗ stg c cc0_stg3_0 (in3 m ρ c) ∗ stg c cc0_stg4_0 (res m ρ c))

set_option maxRecDepth 4000 in
set_option maxHeartbeats 800000 in
theorem sound_body (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c) := by
  unfold bodyPre Φ₀ start
  iintro ⟨⟨⟨⟨%K, #HR, Hpos, Htok⟩, Hcr, #Hlev⟩, Hraw⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have hx0 : g0 = in0 m ρ c := by rw [hg0]; unfold Dat.before; rw [if_pos (fetch0_0 t0_0)]; rfl
  have hx1 : g1 = in1 m ρ c := by rw [hg1]; unfold Dat.before; rw [if_pos (fetch0_1 t0_0)]; rfl
  have hx2 : g2 = in2 m ρ c := by rw [hg2]; unfold Dat.before; rw [if_pos (fetch0_2 t0_0)]; rfl
  have hx3 : g3 = in3 m ρ c := by rw [hg3]; unfold Dat.before; rw [if_pos (fetch0_3 t0_0)]; rfl
  subst hx0 hx1 hx2 hx3
  unfold Dat.owesAt Pipeline.owesWithin
  icases Ho with ⟨%W, %hW, HO⟩
  rw [show (dats m ρ 0 c).owed t0_0.castSucc = owedAll c from rfl]
  iapply (body_run (in3 m ρ) K c (in0 m ρ c) (in1 m ρ c) (in2 m ρ c) g4)
  isplitr []
  · isplitr; · iexact HR
    isplitr; · iexact Hlev
    isplitl [H0 H1 H2 H3]
    · isplitl [H0]; · iexact H0
      isplitl [H1]; · iexact H1
      isplitl [H2]; · iexact H2
      iexact H3
    isplitl [H4]; · iexact H4
    isplitl [Hraw]; · iexact Hraw
    isplitl [HO]; · unfold Ow; iexists W; iexact HO
    isplitl [Htok]; · iexact Htok
    isplitl [Hcr]; · iexact Hcr
    iexact Hpos
  · iintro ⟨⟨H0, H1, H2, H3⟩, H4, Hslots, HO, Hz⟩
    unfold bodyPost Φ₁ Dat.owesAt Pipeline.owesWithin Ow
    rw [show (dats m ρ 0 c).owed t0_0.succ = 0 from rfl]
    icases HO with ⟨%W', HO⟩
    isplitl [Hslots Hz]
    · isplitl [Hslots]; · iexact Hslots
      iexact Hz
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    iexists _; isplitr; · (ipureintro; rfl)
    unfold res; iexact H4

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c)
  exact sound_body m ρ c

/-! ## The cells and their tokens at launch -/

/-- The kernel's own semaphores. -/
abbrev osem : Fin 12 → SemLoc sig := fun i => .dma (⟨5 + i.val, by have := i.isLt; show _ < 17; omega⟩ : Fin 17)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have : k = k' := csem_injective (congrArg Prod.snd h)
  subst this; rfl

def cells : Finset (GSem nD τ sig) := Finset.univ.map ⟨kcell, kcell_injective⟩

/-- A device's tokens as minted: one for each cell, and the barrier's second. -/
abbrev tokOf (cj : Dev nD × Fin 13 ⊕ Dev nD) : GSem nD τ sig × ℕ × Bool := match cj with
  | .inl ck => (kcell ck, 0, false)
  | .inr c => (barCell c, 0, true)

theorem tokOf_injective : Function.Injective (tokOf : Dev nD × Fin 13 ⊕ Dev nD → GSem nD τ sig × ℕ × Bool) := by
  rintro (ck | c) (ck' | c') h
  · rw [kcell_injective (congrArg (fun x : GSem nD τ sig × ℕ × Bool => x.1) h)]
  · exact absurd (congrArg (fun x : GSem nD τ sig × ℕ × Bool => x.2.2) h) (fun h' => by cases h')
  · exact absurd (congrArg (fun x : GSem nD τ sig × ℕ × Bool => x.2.2) h) (fun h' => by cases h')
  · have h1 : c = c' := congrArg (fun x : GSem nD τ sig × ℕ × Bool => x.1.1.1) h
    subst h1; rfl

def mintToks : Finset (GSem nD τ sig × ℕ × Bool) := Finset.univ.map ⟨tokOf, tokOf_injective⟩

def u₀ : UU :=
  (initOf (Pipeline.cells cfgs cellOf_inj) (Pipeline.launchToks cfgs cellOf_inj), initOf cells mintToks)

/-- The tokens of device `c`'s own cells. -/
def toks (c : Dev nD) : sProp 𝕄 :=
  iprop((bigSep Finset.univ fun k : Fin 13 => dutyTok ER (kcell (c, k)) 0 false) ∗ dutyTok ER (barCell c) 0 true)

/-- What the launch deals device `c`. -/
def G (c : Dev nD) : sProp 𝕄 :=
  iprop((bigSep Finset.univ fun k : Fin 13 => roundState ER (rd (in3 m ρ)) (kcell (c, k)) 0)
    ∗ (bigSep Finset.univ fun k : Fin 13 => iprop(atPos ER (kcell (c, k)) 0 ∅ 0 ∗ reached ER (kcell (c, k)) 0)) ∗ toks c)

/-- What the global step makes of it. -/
def G' (c : Dev nD) : sProp 𝕄 := iprop(∃ K, records (in3 m ρ) K ∗ positions c ∗ payToks c)

/-- Thirteen cells conjoined one by one. -/
theorem bigSep_cells (Ψ : GSem nD τ sig → sProp 𝕄) (c : Dev nD) : (bigSep Finset.univ fun k : Fin 13 => Ψ (kcell (c, k)))
    = iprop(Ψ (barCell c) ∗ Ψ (sendCell false 0 c) ∗ Ψ (sendCell false 1 c) ∗ Ψ (sendCell false 2 c) ∗ Ψ (recvCell false 0 c) ∗ Ψ (recvCell false 1 c) ∗ Ψ (recvCell false 2 c) ∗ Ψ (sendCell true 0 c) ∗ Ψ (sendCell true 1 c) ∗ Ψ (sendCell true 2 c) ∗ Ψ (recvCell true 0 c) ∗ Ψ (recvCell true 1 c) ∗ Ψ (recvCell true 2 c)) := by
  rw [bigSep_univ_eq_bigSepL [0, 1, 2, 3, 4, 5, 6, 7, 8, 9, 10, 11, 12] (by decide) (by decide)]
  rfl

theorem fund_cells : BI.own (ER (initOf cells mintToks)) ⊢ (|==> bigSep Finset.univ (G m ρ) : sProp 𝕄) := by
  have hX (Φ : GSem nD τ sig → sProp 𝕄) : bigSep cells Φ = bigSep Finset.univ fun c : Dev nD => bigSep Finset.univ fun k : Fin 13 => Φ (kcell (c, k)) := by
    unfold cells; rw [bigSep_map, bigSep_univ_prod]; rfl
  have hT : bigSep mintToks (fun x => (dutyTok ER x.1 x.2.1 x.2.2 : sProp 𝕄)) = bigSep Finset.univ fun c : Dev nD => toks c := by
    unfold mintToks toks; rw [bigSep_map, bigSep_univ_sum, bigSep_univ_prod, bigSep_sep']; rfl
  iintro HX
  imod (Rounds.fund ER (rd (in3 m ρ)) cells mintToks) $$ HX with ⟨Hst, Hr, Hat, Htok⟩
  imodintro
  ihave Hst' := (Entails.of_eq (hX fun g => roundState ER (rd (in3 m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Semaphores at zero -/

theorem ownSems0_eq (c : Dev nD) : (Pipeline.ownSems0 (Ix := Unit) (Name := ℕ) (U := UU) (Lvl := ℕ) (Val := Elt F) (τ := τ) osem c : sProp 𝕄)
    = iprop(semVal (sendCell false 0 c) 0 ∗ semVal (sendCell false 1 c) 0 ∗ semVal (sendCell false 2 c) 0 ∗ semVal (recvCell false 0 c) 0 ∗ semVal (recvCell false 1 c) 0 ∗ semVal (recvCell false 2 c) 0 ∗ semVal (sendCell true 0 c) 0 ∗ semVal (sendCell true 1 c) 0 ∗ semVal (sendCell true 2 c) 0 ∗ semVal (recvCell true 0 c) 0 ∗ semVal (recvCell true 1 c) 0 ∗ semVal (recvCell true 2 c) 0) := by
  rw [Pipeline.ownSems0_eq_of_list c osem [0, 1, 2, 3, 4, 5, 6, 7, 8, 9, 10, 11] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_cells (fun g => semVal g 0)]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd (in3 m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (rd (in3 m ρ)) (kcell (c, k)) 0)
      ⊢ (|={Set.univ}=> bigSep Finset.univ fun k => iprop(∃ κ : ℕ, cellInv ER (rd (in3 m ρ)) κ (kcell (c, k))) : sProp 𝕄) from by
        rw [← bigSep_sep']
        exact (bigSep_mono fun k _ => (Rounds.body_intro ER (rd (in3 m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The ring, one place on. -/
def ring : Dev nD ≃ Dev nD := ⟨nxt, prv, prv_nxt, nxt_prv⟩

/-- Each token to the device that pays with it. -/
theorem toks_around : (bigSep Finset.univ fun c : Dev nD => (toks c : sProp 𝕄)) ⊢ bigSep Finset.univ fun c : Dev nD => payToks c := by
  have hn (Φ : Dev nD → sProp 𝕄) : bigSep Finset.univ Φ ⊢ bigSep Finset.univ fun c => Φ (nxt c) := Entails.of_eq (bigSep_univ_equiv ring Φ)
  have hp (Φ : Dev nD → sProp 𝕄) : bigSep Finset.univ Φ ⊢ bigSep Finset.univ fun c => Φ (prv c) := Entails.of_eq (bigSep_univ_equiv ring.symm Φ)
  unfold toks payToks
  simp only [bigSep_cells (fun g => dutyTok ER g 0 false), bigSep_sep']
  iintro ⟨⟨Hb, Hs_false_0, Hs_false_1, Hs_false_2, Hr_false_0, Hr_false_1, Hr_false_2, Hs_true_0, Hs_true_1, Hs_true_2, Hr_true_0, Hr_true_1, Hr_true_2⟩, HB⟩
  isplitl [Hb]; · iapply (hp fun c => dutyTok ER (barCell c) 0 false); iexact Hb
  isplitl [HB]; · iapply (hn fun c => dutyTok ER (barCell c) 0 true); iexact HB
  isplitl [Hs_false_0]; · iexact Hs_false_0
  isplitl [Hs_false_1]; · iexact Hs_false_1
  isplitl [Hs_false_2]; · iexact Hs_false_2
  isplitl [Hs_true_0]; · iexact Hs_true_0
  isplitl [Hs_true_1]; · iexact Hs_true_1
  isplitl [Hs_true_2]; · iexact Hs_true_2
  isplitl [Hr_false_0]; · iapply (hn fun c => dutyTok ER (recvCell false 0 c) 0 false); iexact Hr_false_0
  isplitl [Hr_false_1]; · iapply (hn fun c => dutyTok ER (recvCell false 1 c) 0 false); iexact Hr_false_1
  isplitl [Hr_false_2]; · iapply (hn fun c => dutyTok ER (recvCell false 2 c) 0 false); iexact Hr_false_2
  isplitl [Hr_true_0]; · iapply (hp fun c => dutyTok ER (recvCell true 0 c) 0 false); iexact Hr_true_0
  isplitl [Hr_true_1]; · iapply (hp fun c => dutyTok ER (recvCell true 1 c) 0 false); iexact Hr_true_1
  iapply (hp fun c => dutyTok ER (recvCell true 2 c) 0 false); iexact Hr_true_2

theorem positions_intro (c : Dev nD) : (bigSep Finset.univ fun k : Fin 13 => (atPos ER (kcell (c, k)) 0 ∅ 0 : sProp 𝕄)) ⊢ positions c := by
  rw [bigSep_cells (fun g => atPos ER g 0 ∅ 0)]
  unfold positions
  iintro ⟨Hb, Hs_false_0, Hs_false_1, Hs_false_2, Hr_false_0, Hr_false_1, Hr_false_2, Hs_true_0, Hs_true_1, Hs_true_2, Hr_true_0, Hr_true_1, Hr_true_2⟩
  isplitl [Hb]; · iexact Hb
  isplitl [Hs_false_0]; · iexact Hs_false_0
  isplitl [Hs_false_1]; · iexact Hs_false_1
  isplitl [Hs_false_2]; · iexact Hs_false_2
  isplitl [Hs_true_0]; · iexact Hs_true_0
  isplitl [Hs_true_1]; · iexact Hs_true_1
  isplitl [Hs_true_2]; · iexact Hs_true_2
  isplitl [Hr_false_0]; · iexact Hr_false_0
  isplitl [Hr_false_1]; · iexact Hr_false_1
  isplitl [Hr_false_2]; · iexact Hr_false_2
  isplitl [Hr_true_0]; · iexact Hr_true_0
  isplitl [Hr_true_1]; · iexact Hr_true_1
  iexact Hr_true_2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 13 → ℕ) (c : Dev nD) : iprop(records (in3 m ρ) K ∗ (positions c ∗ payToks c)) ⊢ G' m ρ c := by
  unfold G'
  iintro ⟨#HR, Hp, Ht⟩
  iexists K
  isplitr; · iexact HR
  isplitl [Hp] <;> iassumption

theorem regroup :
    (bigSep Finset.univ fun c : Dev nD => iprop((bigSep Finset.univ fun k => iprop(∃ κ : ℕ, cellInv ER (rd (in3 m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 13 => iprop(∃ κ : ℕ, cellInv ER (rd (in3 m ρ)) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (rd (in3 m ρ)) κ (kcell ck) : sProp 𝕄))) $$ HI
  icases HK with ⟨%K, #HI⟩
  ihave Htk := (toks_around (F := F)) $$ Htok
  iapply (with_persistent (R := records (in3 m ρ) K) fun c _ => ghost_intro m ρ K c)
  isplitr
  · unfold records; isplitl; · iexact HI
    iexact HR
  · rw [bigSep_sep']
    isplitl [Hat]
    · iapply (show (bigSep Finset.univ fun c : Dev nD => bigSep Finset.univ fun k : Fin 13 => (atPos ER (kcell (c, k)) 0 ∅ 0 : sProp 𝕄)) ⊢ bigSep Finset.univ fun c : Dev nD => positions c from
        bigSep_mono fun c _ => positions_intro c)
      iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem launch_due (d : Bool) (h : Fin 3) (c : Dev nD) : (Pipeline.launchCred (due d h) c : sProp 𝕄) ⊢ cred (tallyAt (recvCell d h c) () N) := by
  cases d
  · exact Pipeline.launchCred_tallyAt (.dma (recvQ false h)) nxt prv nxt_prv prv_nxt () N c
  · exact Pipeline.launchCred_tallyAt (.dma (recvQ true h)) prv nxt prv_nxt nxt_prv () N c

theorem creds_intro (c : Dev nD) : (Pipeline.launchCred owedAll c : sProp 𝕄) ⊢ creds c := by
  have e : (owedAll : Dev nD → CellTallies nD τ sig Unit) = fun c => ((((((due true 2 c + due false 2 c) + due true 1 c) + due false 1 c) + due true 0 c) + due false 0 c)
      + tallyAt (barCell (nxt c)) () 1) + tallyAt (barCell (prv c)) () 1 := rfl
  rw [e]
  simp only [Pipeline.launchCred_add]
  unfold creds
  iintro ⟨⟨⟨⟨⟨⟨⟨Ht2, Hf2⟩, Ht1⟩, Hf1⟩, Ht0⟩, Hf0⟩, Hn⟩, Hp⟩
  isplitl [Hn Hp]
  · ihave Hn := (Pipeline.launchCred_tallyAt (Val := Elt F) (Name := ℕ) (U := UU) (Lvl := ℕ) (.reg barS) nxt prv nxt_prv prv_nxt () 1 c) $$ Hn
    ihave Hp := (Pipeline.launchCred_tallyAt (Val := Elt F) (Name := ℕ) (U := UU) (Lvl := ℕ) (.reg barS) prv nxt prv_nxt nxt_prv () 1 c) $$ Hp
    iapply (show iprop(cred (tallyAt (barCell c) () 1) ∗ cred (tallyAt (barCell c) () 1)) ⊢ (cred (tallyAt (barCell c) () 2) : sProp 𝕄) from
      (cred_add _ _).2.trans (Entails.of_eq (congrArg cred (by rw [show (2 : ℕ) = 1 + 1 from rfl, tallyAt_add]))))
    isplitl [Hn] <;> iassumption
  isplitl [Hf0]; · iapply (launch_due false 0 c); iexact Hf0
  isplitl [Hf1]; · iapply (launch_due false 1 c); iexact Hf1
  isplitl [Hf2]; · iapply (launch_due false 2 c); iexact Hf2
  isplitl [Ht0]; · iapply (launch_due true 0 c); iexact Ht0
  isplitl [Ht1]; · iapply (launch_due true 1 c); iexact Ht1
  iapply (launch_due true 2 c); iexact Ht2

/-! ### The scratch buffers -/

theorem bigSep_slots (Φ : Fin 4 → sProp 𝕄) : bigSep Finset.univ Φ = iprop(Φ 0 ∗ Φ 1 ∗ Φ 2 ∗ Φ 3) := bigSep_univ_eq_bigSepL [0, 1, 2, 3] (by decide) (by decide) Φ

theorem any_intro (d : Bool) (c : Dev nD) (f : Buf (Elt F) ((bufM d).view.loc (c : Thread nD τ))) :
    ((bufM d).view.loc (c : Thread nD τ) ↦{fullShare} f : sProp 𝕄) ⊢ iprop(slotAny d c 0 ∗ barPay d c) := by
  rw [buf_split, bigSep_slots]
  unfold barPay slotAny
  iintro ⟨H0, H1, H2, H3⟩
  isplitl [H0]; · iexists f; iexact H0
  isplitl [H1]; · iexists f; iexact H1
  isplitl [H2]; · iexists f; iexact H2
  iexists f; iexact H3

theorem raw_intro (c : Dev nD) : (Pipeline.scopedRest (Ix := Unit) (Name := ℕ) (U := UU) (Lvl := ℕ) (Val := Elt F) cfg0.spec c : sProp 𝕄) ⊢ rawSlots c := by
  rw [scopedRest0_eq]
  unfold rawSlots
  iintro ⟨⟨%f, Hf⟩, ⟨%g, Hg⟩⟩
  ihave H := (any_intro (F := F) false c f) $$ Hf
  icases H with ⟨Hf0, Hf1⟩
  ihave H := (any_intro (F := F) true c g) $$ Hg
  icases H with ⟨Hg0, Hg1⟩
  isplitl [Hf0]; · iexact Hf0
  isplitl [Hg0]; · iexact Hg0
  isplitl [Hf1] <;> iassumption

theorem held_join (X : Wts F) (d : Bool) (c : Dev nD) :
    iprop(slotPts X d c 0 fullShare ∗ slotPts X d c 1 fullShare ∗ slotPts X d c 2 fullShare ∗ slotPts X d c 3 fullShare)
      ⊢ ((bufM d).view.loc (c : Thread nD τ) ↦{fullShare} held X d c : sProp 𝕄) := by
  rw [buf_split, bigSep_slots]
  exact BI.Entails.refl _

theorem raw_exit (X : Wts F) (c : Dev nD) : allSlots X c ⊢ (Pipeline.scopedRest (Ix := Unit) (Name := ℕ) (U := UU) (Lvl := ℕ) (Val := Elt F) cfg0.spec c : sProp 𝕄) := by
  rw [scopedRest0_eq]
  unfold allSlots
  iintro ⟨H0, H1, H2, H3, G0, G1, G2, G3⟩
  isplitl [H0 H1 H2 H3]
  · iexists held X false c
    iapply (held_join X false c)
    isplitl [H0]; · iexact H0
    isplitl [H1]; · iexact H1
    isplitl [H2] <;> iassumption
  · iexists held X true c
    iapply (held_join X true c)
    isplitl [G0]; · iexact G0
    isplitl [G1]; · iexact G1
    isplitl [G2] <;> iassumption

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (raw_intro (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, ownSems0_eq, unscopedSems0_eq]
  unfold Φ₁ zeros
  iintro ⟨Hr, ⟨Hb, Hs_false_0, Hs_false_1, Hs_false_2, Hs_true_0, Hs_true_1, Hs_true_2, Hr_false_0, Hr_false_1, Hr_false_2, Hr_true_0, Hr_true_1, Hr_true_2⟩⟩
  isplitl [Hb]; · iexact Hb
  isplitr [Hr]
  · isplitl [Hs_false_0]; · iexact Hs_false_0
    isplitl [Hs_false_1]; · iexact Hs_false_1
    isplitl [Hs_false_2]; · iexact Hs_false_2
    isplitl [Hr_false_0]; · iexact Hr_false_0
    isplitl [Hr_false_1]; · iexact Hr_false_1
    isplitl [Hr_false_2]; · iexact Hr_false_2
    isplitl [Hs_true_0]; · iexact Hs_true_0
    isplitl [Hs_true_1]; · iexact Hs_true_1
    isplitl [Hs_true_2]; · iexact Hs_true_2
    isplitl [Hr_true_0]; · iexact Hr_true_0
    isplitl [Hr_true_1]; · iexact Hr_true_1
    iexact Hr_true_2
  iapply (raw_exit (in3 m ρ) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait (n := 0) (by
      rcases t with ⟨_ | _, ht⟩
      · exact owedAll_above c (by decide)
      · exact Above.zero 0) c _ (by fin_cases w <;> fin_cases s <;> exact Nat.le_refl 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair execution of the program on the four devices
    terminates with each array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

end Cert.Moe

end
-- ==== Proof.Gates.lean ====
/-
The algebra of the two gates over the extended reals.

Each token has two experts. The reference normalises all sixteen scores and then divides each chosen one by the sum of the
two; the kernel compares the two chosen scores alone. Over real scores both give the same share.
-/
module

public import Idealize.ShloMosaic.PureOps.Ideal
public import Idealize.ShloMosaic.PureOps.Ideal.Laws
public import Idealize.ShloMosaic.Lib.Pointwise

@[expose] public section

noncomputable section

namespace Cert.Moe

open Idealize.ShloMosaic

/-- The share of a score `a` against another score `b`, both taken relative to `m`. -/
def share (a b m : EReal) : EReal := Ideal.div (Ideal.exp (a - m)) (Ideal.exp (a - m) + Ideal.exp (b - m))

/-- A score as the reference normalises it: relative to `M`, over the sum of all. -/
def soft (s : Fin 16 → EReal) (M : EReal) (e : Fin 16) : EReal := Ideal.div (Ideal.exp (s e - M)) (∑ k, Ideal.exp (s k - M))

theorem coe_sum {ι : Type*} (t : Finset ι) (f : ι → ℝ) : ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- The real number that is the share. -/
def shareR (a b : ℝ) : ℝ := Real.exp a / (Real.exp a + Real.exp b)

theorem shareR_nonneg (a b : ℝ) : 0 ≤ shareR a b := by unfold shareR; positivity

theorem div_real {x y : ℝ} (h : y ≠ 0) : Ideal.div (x : EReal) (y : EReal) = ((x / y : ℝ) : EReal) := by
  rw [Ideal.div_coe h, ← EReal.coe_mul, mul_one_div]

theorem share_coe (a b m : ℝ) : share (a : EReal) (b : EReal) (m : EReal) = (shareR a b : EReal) := by
  unfold share
  rw [← EReal.coe_sub, ← EReal.coe_sub, Ideal.exp_coe, Ideal.exp_coe, ← EReal.coe_add, div_real (by positivity)]
  congr 1
  unfold shareR
  rw [Real.exp_sub, Real.exp_sub, ← add_div, div_div_div_cancel_right₀ (Real.exp_ne_zero m)]

theorem soft_coe (s : Fin 16 → ℝ) (M : ℝ) (e : Fin 16) :
    soft (fun k => (s k : EReal)) (M : EReal) e = ((Real.exp (s e - M) / ∑ k, Real.exp (s k - M) : ℝ) : EReal) := by
  unfold soft
  have h : ∑ k, Ideal.exp ((s k : EReal) - (M : EReal)) = ((∑ k, Real.exp (s k - M) : ℝ) : EReal) := by
    rw [coe_sum]
    exact Finset.sum_congr rfl fun k _ => by rw [← EReal.coe_sub, Ideal.exp_coe]
  rw [h, ← EReal.coe_sub, Ideal.exp_coe, div_real]
  exact (Finset.sum_pos (fun k _ => Real.exp_pos _) Finset.univ_nonempty).ne'

/-- The reference's ratio of two normalised scores is the share. -/
theorem ratio_coe (s : Fin 16 → ℝ) (M : ℝ) (e e' : Fin 16) :
    Ideal.div (soft (fun k => (s k : EReal)) (M : EReal) e)
      (soft (fun k => (s k : EReal)) (M : EReal) e + soft (fun k => (s k : EReal)) (M : EReal) e') = (shareR (s e) (s e') : EReal) := by
  have hz : (∑ k, Real.exp (s k - M)) ≠ 0 := (Finset.sum_pos (fun k _ => Real.exp_pos _) Finset.univ_nonempty).ne'
  have hp : 0 < ∑ k, Real.exp (s k - M) := Finset.sum_pos (fun k _ => Real.exp_pos _) Finset.univ_nonempty
  rw [soft_coe, soft_coe, ← EReal.coe_add, div_real (by positivity)]
  congr 1
  unfold shareR
  rw [← add_div, div_div_div_cancel_right₀ hz, Real.exp_sub, Real.exp_sub, ← add_div, div_div_div_cancel_right₀ (Real.exp_ne_zero M)]

theorem ratio_coe' (s : Fin 16 → ℝ) (M : ℝ) (e e' : Fin 16) :
    Ideal.div (soft (fun k => (s k : EReal)) (M : EReal) e')
      (soft (fun k => (s k : EReal)) (M : EReal) e + soft (fun k => (s k : EReal)) (M : EReal) e') = (shareR (s e') (s e) : EReal) := by
  rw [add_comm]; exact ratio_coe s M e' e

/-- The largest of finitely many reals, taken from `⊥`, is a real. -/
theorem max_coe (s : Fin 16 → ℝ) : ∃ M : ℝ, Finset.univ.fold max (⊥ : EReal) (fun k : Fin 16 => (s k : EReal)) = (M : EReal) := by
  obtain ⟨i, -, hi⟩ := Finset.exists_mem_eq_sup (Finset.univ : Finset (Fin 16)) Finset.univ_nonempty (fun k => (s k : EReal))
  exact ⟨s i, hi⟩

/-- One-hot weights pick two terms out of a sum. -/
theorem sum_two (a b : ℝ) (ha : 0 ≤ a) (hb : 0 ≤ b) (e0 e1 : Fin 16) (D : Fin 16 → EReal) :
    ∑ n, ((if n = e0 then 1 else 0) * (a : EReal) + (if n = e1 then 1 else 0) * (b : EReal)) * D n = (a : EReal) * D e0 + (b : EReal) * D e1 := by
  have hk : ∀ n, ((if n = e0 then 1 else 0) * (a : EReal) + (if n = e1 then 1 else 0) * (b : EReal)) * D n
      = (if n = e0 then (a : EReal) * D e0 else 0) + (if n = e1 then (b : EReal) * D e1 else 0) := fun n => by
    rw [EReal.right_distrib_of_nonneg]
    · by_cases h0 : n = e0 <;> by_cases h1 : n = e1 <;> simp [h0, h1] <;> simp_all
    · by_cases h0 : n = e0 <;> simp [h0, ha]
    · by_cases h1 : n = e1 <;> simp [h1, hb]
  rw [Finset.sum_congr rfl fun n _ => hk n, Finset.sum_add_distrib]
  simp

/-- A sum of products of reals is a real. -/
theorem dot_coe {K : ℕ} (x w : Fin K → EReal) (hx : ∀ k, ∃ r : ℝ, x k = r) (hw : ∀ k, ∃ r : ℝ, w k = r) :
    ∃ r : ℝ, ∑ k, x k * w k = (r : EReal) := by
  choose f hf using hx
  choose g hg using hw
  refine ⟨∑ k, f k * g k, ?_⟩
  rw [coe_sum]
  exact Finset.sum_congr rfl fun k _ => by rw [hf, hg, EReal.coe_mul]

/-- A value whose absolute value is below `⊤` is a real. -/
theorem real_of_abs (x : EReal) (h : max x (-x) < ⊤) : ∃ r : ℝ, x = r := by
  induction x using EReal.rec with
  | bot => simp at h
  | top => simp at h
  | coe r => exact ⟨r, rfl⟩

end Cert.Moe

end
-- ==== Proof.Routed.lean ====
/-
What the precondition says: each routing word names one of the sixteen experts, and the tokens and the router's weights are
real numbers.
-/
module

public import proofs.«01_k».proof.Proof.Gates
public import proofs.«01_k».proof.Pre_routed_KernelIdeal
public import proofs.«01_k».proof.Pre_routed_ReferenceIdeal
public import Idealize.ShloMosaic.Lib.ReduceAll
public import Idealize.ShloMosaic.Lib.Pointwise
public import Idealize.ShloMosaic.Lib.Pointwise.IndexBridge

@[expose] public section

noncomputable section

namespace Cert.Moe

open Idealize.ShloMosaic

/-- The shape facts the precondition states, over the kernel's blocks. -/
theorem preFactsK : Cert.Pre_routed_KernelIdeal.Facts where
  bcast_S_S512x2 := by decide
  reducesTo_S512x2_S_d0_1 := by decide
  h_S_ := by decide
  bcast_S_S512x256 := by decide
  reducesTo_S512x256_S_d0_1 := by decide
  bcast_S_S256x16 := by decide
  reducesTo_S256x16_S_d0_1 := by decide

/-- The same over the whole arrays. -/
theorem preFactsR : Cert.Pre_routed_ReferenceIdeal.Facts where
  bcast_S_S2048x2 := by decide
  reducesTo_S2048x2_S_d0_1 := by decide
  h_S_ := by decide
  bcast_S_S2048x256 := by decide
  reducesTo_S2048x256_S_d0_1 := by decide
  bcast_S_S256x16 := by decide
  reducesTo_S256x16_S_d0_1 := by decide

open Cert.Pre_routed_KernelIdeal in
section
variable [Cert.Pre_routed_KernelIdeal.Facts]

theorem top_bits : Ideal.ofBits FTy.bf16 0x7F80#16 = (⊤ : EReal) := by simp [Ideal.ofBits, Ideal.ieee]

/-- A compared absolute value that came out below infinity is of a real. -/
theorem real_of_cmp (x : EReal) (h : Ideal.cmp .olt (max x (-x)) ⊤ = 1#1) : ∃ r : ℝ, x = r := by
  refine real_of_abs x ?_
  by_contra hn
  rw [show Ideal.cmp .olt (max x (-x)) ⊤ = 0#1 by simp only [Ideal.cmp, decide_eq_false hn]; rfl] at h
  exact absurd h (by decide)

/-- A word between 0 and 15, read signed, names an expert. -/
theorem named_of_cmp (w : BitVec 32) (h : IntOp.andi (IntOp.cmpi .sge w 0#32) (IntOp.cmpi .slt w 16#32) = 1#1) :
    ∃ e : Fin 16, w = BitVec.ofNat 32 e.val := by
  obtain ⟨hl, hu⟩ := IntOp.andi_eq_one.1 h
  rw [IntOp.cmpi_sge] at hl
  rw [IntOp.cmpi_slt] at hu
  rw [show (0#32 : BitVec 32).toInt = 0 by decide] at hl
  rw [show (16#32 : BitVec 32).toInt = 16 by decide] at hu
  have hn : w.toNat < 16 := by
    rw [BitVec.toInt_eq_toNat_cond] at hl hu
    split at hl <;> omega
  exact ⟨⟨w.toNat, hn⟩, by simp⟩

theorem routed_facts (A0 : FVec Ideal S512x256 .bf16) (A1 : FVec Ideal S256x16 .bf16) (A2 : IVec S512x2 32) (A3 : FVec Ideal S4x256x512 .bf16)
    (h : Cert.Pre_routed_KernelIdeal.fn (F := Ideal) A0 A1 A2 A3 = fun _ => 1#1) :
    (∀ i k, ∃ r : ℝ, A0 (ix2 i k) = (r : EReal)) ∧ (∀ k n, ∃ r : ℝ, A1 (ix2 k n) = (r : EReal))
      ∧ ∀ i a, ∃ e : Fin 16, A2 (ix2 i a) = BitVec.ofNat 32 e.val := by
  have h0 := congrFun h (fun a => a.elim0)
  dsimp only [Cert.Pre_routed_KernelIdeal.fn] at h0
  obtain ⟨h01, hw⟩ := IntOp.andi_eq_one.1 h0
  obtain ⟨hi, hx⟩ := IntOp.andi_eq_one.1 h01
  haveI : Subsingleton S_.Idx := ⟨fun a b => funext fun x => x.elim0⟩
  refine ⟨fun i k => real_of_cmp _ ?_, fun k n => real_of_cmp _ ?_, fun i a => named_of_cmp _ ?_⟩
  · have := Host.reduce_andi_all _ _ _ _ _ hx (ix2 i k)
    rw [← top_bits]
    exact this
  · have := Host.reduce_andi_all _ _ _ _ _ hw (ix2 k n)
    rw [← top_bits]
    exact this
  · exact Host.reduce_andi_all _ _ _ _ _ hi (ix2 i a)

end

end Cert.Moe

end
-- ==== Proof.Frames.lean ====
/-
The frames: each program runs to its end, leaves its arguments as they were and every semaphore counter at zero.
-/
module

public import proofs.«01_k».proof.Defs
public import proofs.«01_k».proof.Proof.Launch
public import proofs.«01_k».proof.Proof.Routed
public import proofs.«01_k».proof.Proof.Gen.Kernel
public import proofs.«01_k».proof.Proof.Gen.ReferenceIdeal.Run

@[expose] public section

noncomputable section

namespace Cert.Moe

open Idealize.ShloMosaic Idealize.ShloMosaic.TcCoe Idealize.SL.Sem
open Cert.KernelIdeal Cert.KernelIdeal.Gen

/-- The kernel's frame over any float values. -/
theorem frame_any {F : FTy → Type} [FloatOps F] (m : (ℓ : Loc nD τ sig) → Buf (Elt F) ℓ) (ρ : Dev nD → PrngReg) :
    θ_run (defs (F := F)) (onTc (τ := τ) main) ⟨m, fun _ => 0, ρ⟩ fun r =>
      (∀ c : Dev nD, r.2.mem ((c.tc : Thread nD τ).loc main_arg0) = m ((c.tc : Thread nD τ).loc main_arg0) ∧ r.2.mem ((c.tc : Thread nD τ).loc main_arg1) = m ((c.tc : Thread nD τ).loc main_arg1)
        ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0 :=
  (θ_run defs _ _).mono (fun _ h => ⟨fun c => ⟨(h.1 c (0 : Fin 5)).trans (finalA_0 m ρ c), (h.1 c (1 : Fin 5)).trans (finalA_1 m ρ c),
    (h.1 c (2 : Fin 5)).trans (finalA_2 m ρ c), (h.1 c (3 : Fin 5)).trans (finalA_3 m ρ c)⟩, h.2⟩) (run_main (F := F) m ρ)

theorem frame_kernelIdeal : Cert.quiescent_KernelIdeal := fun m ρ _ => frame_any (F := Ideal) m ρ

/-- The same under the value claim's precondition, which the run does not need. -/
theorem frame_kernelIdeal_routed : Cert.quiescent_KernelIdeal_pre_routed_KernelIdeal (hPre_routed_KernelIdeal := preFactsK) :=
  fun m ρ _ => frame_any (F := Ideal) m ρ

/-- The two programs have the same text: their kernels' body tables are equal, case by case. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs Cert.Kernel.pcfgs) bodies_eq

theorem frame_kernel : Cert.quiescent_Kernel := fun m ρ _ => by
  rw [defs_eq]
  exact frame_any (F := Bits) m ρ

theorem frame_referenceIdeal : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

theorem frame_referenceIdeal_routed : Cert.quiescent_ReferenceIdeal_pre_routed_ReferenceIdeal (hPre_routed_ReferenceIdeal := preFactsR) :=
  fun m ρ _ => frame_referenceIdeal m ρ trivial

end Cert.Moe

end
-- ==== Proof.Steps.lean ====
/-
The kernel's result as sixteen equal steps, and its value at an index over the extended reals.

Each step adds to the accumulator one expert's product, scaled row by row by that expert's column of the combining weights.
The experts come in an order that depends on the device, and every expert comes once, so the sum is over all sixteen.
-/
module

public import proofs.«01_k».proof.Proof.Body
public import Idealize.ShloMosaic.Lib.Pointwise
public import Idealize.ShloMosaic.Lib.Pointwise.IndexBridge

@[expose] public section

set_option maxRecDepth 16384

noncomputable section

namespace Cert.Moe

open Cert.KernelIdeal Cert.KernelIdeal.Gen
open Idealize.ShloMosaic

/-! ## The steps -/

section Steps
variable {F : FTy → Type} [FloatOps F]

/-- The column of the weights that the word `e` names, as the kernel picks it: a sum over the lanes of a select. -/
def gate (w : FVec F S512x16 .f32) (e : BitVec 32) : FVec F S512x1 .f32 :=
  shapeCast S512x1 (multiReduction .add [1] S512 (select (cmpi .eq lanes (broadcast S512x16 e)) w (broadcast S512x16 (Scalar.ofBits .f32 0x00000000#32)))
    0x00000000#32 reduces_S512x16_S512 (.inl rfl) rfl) shapeCasts_S512_S512x1

/-- The accumulator after one more expert. -/
def step (w : FVec F S512x16 .f32) (x : FVec F S512x256 .bf16) (acc : FVec F S512x512 .f32) (e : BitVec 32) (W : Vec F S1x1x256x512 .bf16) :
    FVec F S512x512 .f32 :=
  addf acc (mulf (broadcastTo S512x512 (gate w e) broadcasts_S512x1_S512x512)
    (matmul dot_S512x256_S256x512_S512x512_1_0_0_1_n_n none x (shapeCast S256x512 W shapeCasts_S1x1x256x512_S256x512) (constant S512x512 .f32 0x00000000#32)))

/-- The word of expert `h + k` of the device whose word is `b`. -/
abbrev wd (b h k : BitVec 32) : BitVec 32 := Scalar.addi (Scalar.addi (Scalar.muli b 4#32) h) k

/-- Two steps: the experts `0, 1` (direction `false`) or `2, 3` (direction `true`) that slot `s` holds. -/
def pair (X : Wts F) (c : Dev nD) (w : FVec F S512x16 .f32) (x : FVec F S512x256 .bf16) (acc : FVec F S512x512 .f32) (d : Bool) (s : Fin 4) (b h : BitVec 32) :
    FVec F S512x512 .f32 :=
  step w x (step w x acc (wd b h 0#32) (expert X d c s 0)) (wd b h 1#32) (expert X d c s 1)

/-- The result, slot by slot: first the slot that went forward, then the slot that went backward. -/
theorem out_steps (X : Wts F) (c : Dev nD) (A0 : Vec F S512x256 .bf16) (A1 : Vec F S256x16 .bf16) (A2 : Vec F S512x2 .i32) :
    out X c A0 A1 A2 =
      (let P := pair X c (wts A0 A1 A2) (xv A0)
       P (P (P (P (P (P (P (P (broadcast S512x512 (Scalar.ofBits .f32 0x00000000#32)) false 0 (mu c 4#32) 0#32) true 0 (mu c 0#32) 2#32)
        false 1 (mu c 3#32) 0#32) true 1 (mu c 1#32) 2#32) false 2 (mu c 2#32) 0#32) true 2 (mu c 2#32) 2#32)
        false 3 (mu c 1#32) 0#32) true 3 (mu c 3#32) 2#32) := by
  have h0 : acc0 X c A0 A1 A2 = pair X c (wts A0 A1 A2) (xv A0) (pair X c (wts A0 A1 A2) (xv A0) (broadcast S512x512 (Scalar.ofBits .f32 0x00000000#32)) false 0 (mu c 4#32) 0#32) true 0 (mu c 0#32) 2#32 := rfl
  have h1 : acc1 X c A0 A1 A2 = pair X c (wts A0 A1 A2) (xv A0) (pair X c (wts A0 A1 A2) (xv A0) (acc0 X c A0 A1 A2) false 1 (mu c 3#32) 0#32) true 1 (mu c 1#32) 2#32 := rfl
  have h2 : acc2 X c A0 A1 A2 = pair X c (wts A0 A1 A2) (xv A0) (pair X c (wts A0 A1 A2) (xv A0) (acc1 X c A0 A1 A2) false 2 (mu c 2#32) 0#32) true 2 (mu c 2#32) 2#32 := rfl
  have h3 : out X c A0 A1 A2 = pair X c (wts A0 A1 A2) (xv A0) (pair X c (wts A0 A1 A2) (xv A0) (acc2 X c A0 A1 A2) false 3 (mu c 1#32) 0#32) true 3 (mu c 3#32) 2#32 := rfl
  rw [h3, h2, h1, h0]

end Steps

/-! ## A step at an index -/

/-- The number of expert `k` of slot `s` of direction `d` on device `c`. -/
def eid (d : Bool) (c : Dev nD) (s : Fin 4) (k : Fin 2) : Fin 16 :=
  ⟨4 * (origin d c s.val).val + ((if d then 2 else 0) + k.val), by have h : (origin d c s.val).val < 4 := (origin d c s.val).isLt; have := k.isLt; cases d <;> simp <;> omega⟩

/-- Two lanes' words are equal exactly when the lanes are. -/
theorem lane_eq : ∀ x n : Fin 16, IntOp.cmpi CmpIPredicate.eq (BitVec.ofNat 32 x.val) (BitVec.ofNat 32 n.val) = if x = n then 1#1 else 0#1 := by
  decide

/-- A sum over the lanes of a select on one lane is that lane's value. -/
theorem pick (f : Fin 16 → EReal) (n : Fin 16) :
    ∑ x : Fin 16, Scalar.select (IntOp.cmpi CmpIPredicate.eq (BitVec.ofNat 32 x.val) (BitVec.ofNat 32 n.val)) (f x) 0 = f n := by
  rw [Finset.sum_eq_single n]
  · rw [show IntOp.cmpi CmpIPredicate.eq (BitVec.ofNat 32 n.val) (BitVec.ofNat 32 n.val) = 1#1 from (lane_eq n n).trans (if_pos rfl)]
    rfl
  · intro x _ hx
    rw [show IntOp.cmpi CmpIPredicate.eq (BitVec.ofNat 32 x.val) (BitVec.ofNat 32 n.val) = 0#1 from (lane_eq x n).trans (if_neg hx)]
    rfl
  · exact fun h => absurd (Finset.mem_univ n) h

theorem gate_apply (w : FVec Ideal S512x16 .f32) (n : Fin 16) (i : Fin 512) :
    gate w (BitVec.ofNat 32 n.val) (ix2 i 0) = w (ix2 i n) := by
  pointwise [gate, lanes]
  exact pick (fun x => w (ix2 i x)) n

theorem step_apply (w : FVec Ideal S512x16 .f32) (x : FVec Ideal S512x256 .bf16) (acc : FVec Ideal S512x512 .f32) (e : BitVec 32) (n : Fin 16)
    (he : e = BitVec.ofNat 32 n.val) (W : Vec Ideal S1x1x256x512 .bf16) (i j : Fin 512) :
    step w x acc e W (ix2 i j) = acc (ix2 i j) + w (ix2 i n) * ∑ k : Fin 256, x (ix2 i k) * W (ix4 0 0 k j) := by
  subst he
  have hg := gate_apply w n i
  unfold step
  generalize gate w (BitVec.ofNat 32 n.val) = g at hg
  pointwise
  rw [hg]

/-- The weights of expert `n` in the whole mesh's numbering. -/
def wAll (X : Wts Ideal) (n : Fin 16) (k : Fin 256) (j : Fin 512) : EReal := X ⟨n.val / 4, by have := n.isLt; show _ < 4; omega⟩ (ix3 ⟨n.val % 4, by omega⟩ k j)

theorem expert_apply (X : Wts Ideal) (d : Bool) (c : Dev nD) (s : Fin 4) (k : Fin 2) (a : Fin 256) (b : Fin 512) :
    expert X d c s k (ix4 0 0 a b) = wAll X (eid d c s k) a b := by
  unfold expert wAll
  have hk := k.isLt
  have hv : (eid d c s k).val = 4 * (origin d c s.val).val + ((if d then 2 else 0) + k.val) := rfl
  have h1 : (⟨(eid d c s k).val / 4, by have := (eid d c s k).isLt; show _ < 4; omega⟩ : Dev nD) = origin d c s.val :=
    Fin.ext (by show (eid d c s k).val / 4 = _; rw [hv]; cases d <;> simp <;> omega)
  rw [h1]
  refine congrArg _ (funext fun x => Fin.ext ?_)
  have h2 : ((if d then 2 else 0) + k.val) = (eid d c s k).val % 4 := by rw [hv]; cases d <;> simp <;> omega
  fin_cases x
  · exact h2
  · rfl
  · rfl

/-- One expert's part of the result. -/
def part (w : FVec Ideal S512x16 .f32) (x : FVec Ideal S512x256 .bf16) (X : Wts Ideal) (i j : Fin 512) (n : Fin 16) : EReal :=
  w (ix2 i n) * ∑ k : Fin 256, x (ix2 i k) * wAll X n k j

theorem pair_apply (X : Wts Ideal) (c : Dev nD) (w : FVec Ideal S512x16 .f32) (x : FVec Ideal S512x256 .bf16) (acc : FVec Ideal S512x512 .f32)
    (d : Bool) (s : Fin 4) (b h : BitVec 32) (h0 : wd b h 0#32 = BitVec.ofNat 32 (eid d c s 0).val) (h1 : wd b h 1#32 = BitVec.ofNat 32 (eid d c s 1).val) (i j : Fin 512) :
    pair X c w x acc d s b h (ix2 i j) = acc (ix2 i j) + part w x X i j (eid d c s 0) + part w x X i j (eid d c s 1) := by
  unfold pair part
  rw [step_apply w x _ _ _ h1, step_apply w x _ _ _ h0]
  simp only [expert_apply]

theorem words : ∀ c : Dev nD,
    (wd (mu c 4#32) 0#32 0#32 = BitVec.ofNat 32 (eid false c 0 0).val ∧ wd (mu c 4#32) 0#32 1#32 = BitVec.ofNat 32 (eid false c 0 1).val)
    ∧ (wd (mu c 0#32) 2#32 0#32 = BitVec.ofNat 32 (eid true c 0 0).val ∧ wd (mu c 0#32) 2#32 1#32 = BitVec.ofNat 32 (eid true c 0 1).val)
    ∧ (wd (mu c 3#32) 0#32 0#32 = BitVec.ofNat 32 (eid false c 1 0).val ∧ wd (mu c 3#32) 0#32 1#32 = BitVec.ofNat 32 (eid false c 1 1).val)
    ∧ (wd (mu c 1#32) 2#32 0#32 = BitVec.ofNat 32 (eid true c 1 0).val ∧ wd (mu c 1#32) 2#32 1#32 = BitVec.ofNat 32 (eid true c 1 1).val)
    ∧ (wd (mu c 2#32) 0#32 0#32 = BitVec.ofNat 32 (eid false c 2 0).val ∧ wd (mu c 2#32) 0#32 1#32 = BitVec.ofNat 32 (eid false c 2 1).val)
    ∧ (wd (mu c 2#32) 2#32 0#32 = BitVec.ofNat 32 (eid true c 2 0).val ∧ wd (mu c 2#32) 2#32 1#32 = BitVec.ofNat 32 (eid true c 2 1).val)
    ∧ (wd (mu c 1#32) 0#32 0#32 = BitVec.ofNat 32 (eid false c 3 0).val ∧ wd (mu c 1#32) 0#32 1#32 = BitVec.ofNat 32 (eid false c 3 1).val)
    ∧ (wd (mu c 3#32) 2#32 0#32 = BitVec.ofNat 32 (eid true c 3 0).val ∧ wd (mu c 3#32) 2#32 1#32 = BitVec.ofNat 32 (eid true c 3 1).val) := by
  intro c
  fin_cases c <;> decide

/-- Every expert comes once, in an order of the device's own. -/
theorem sum_order (c : Dev nD) (f : Fin 16 → EReal) :
    0 + f (eid false c 0 0) + f (eid false c 0 1) + f (eid true c 0 0) + f (eid true c 0 1)
      + f (eid false c 1 0) + f (eid false c 1 1) + f (eid true c 1 0) + f (eid true c 1 1)
      + f (eid false c 2 0) + f (eid false c 2 1) + f (eid true c 2 0) + f (eid true c 2 1)
      + f (eid false c 3 0) + f (eid false c 3 1) + f (eid true c 3 0) + f (eid true c 3 1) = ∑ n, f n := by
  simp only [Fin.sum_univ_succ, Fin.sum_univ_zero]
  fin_cases c
  · show 0 + f 0 + f 1 + f 2 + f 3 + f 12 + f 13 + f 6 + f 7 + f 8 + f 9 + f 10 + f 11 + f 4 + f 5 + f 14 + f 15
      = f 0 + (f 1 + (f 2 + (f 3 + (f 4 + (f 5 + (f 6 + (f 7 + (f 8 + (f 9 + (f 10 + (f 11 + (f 12 + (f 13 + (f 14 + (f 15 + 0)))))))))))))))
    abel
  · show 0 + f 4 + f 5 + f 6 + f 7 + f 0 + f 1 + f 10 + f 11 + f 12 + f 13 + f 14 + f 15 + f 8 + f 9 + f 2 + f 3
      = f 0 + (f 1 + (f 2 + (f 3 + (f 4 + (f 5 + (f 6 + (f 7 + (f 8 + (f 9 + (f 10 + (f 11 + (f 12 + (f 13 + (f 14 + (f 15 + 0)))))))))))))))
    abel
  · show 0 + f 8 + f 9 + f 10 + f 11 + f 4 + f 5 + f 14 + f 15 + f 0 + f 1 + f 2 + f 3 + f 12 + f 13 + f 6 + f 7
      = f 0 + (f 1 + (f 2 + (f 3 + (f 4 + (f 5 + (f 6 + (f 7 + (f 8 + (f 9 + (f 10 + (f 11 + (f 12 + (f 13 + (f 14 + (f 15 + 0)))))))))))))))
    abel
  · show 0 + f 12 + f 13 + f 14 + f 15 + f 8 + f 9 + f 2 + f 3 + f 4 + f 5 + f 6 + f 7 + f 0 + f 1 + f 10 + f 11
      = f 0 + (f 1 + (f 2 + (f 3 + (f 4 + (f 5 + (f 6 + (f 7 + (f 8 + (f 9 + (f 10 + (f 11 + (f 12 + (f 13 + (f 14 + (f 15 + 0)))))))))))))))
    abel

/-- The result at an index: the weighted sum of all sixteen experts' products. -/
theorem out_apply (X : Wts Ideal) (c : Dev nD) (A0 : Vec Ideal S512x256 .bf16) (A1 : Vec Ideal S256x16 .bf16) (A2 : Vec Ideal S512x2 .i32) (i j : Fin 512) :
    out X c A0 A1 A2 (ix2 i j) = ∑ n, part (wts A0 A1 A2) (xv A0) X i j n := by
  obtain ⟨⟨a0, a1⟩, ⟨b0, b1⟩, ⟨c0, c1⟩, ⟨d0, d1⟩, ⟨e0, e1⟩, ⟨f0, f1⟩, ⟨g0, g1⟩, ⟨h0, h1⟩⟩ := words c
  rw [out_steps]
  dsimp only
  rw [pair_apply X c _ _ _ true 3 _ _ h0 h1, pair_apply X c _ _ _ false 3 _ _ g0 g1, pair_apply X c _ _ _ true 2 _ _ f0 f1,
    pair_apply X c _ _ _ false 2 _ _ e0 e1, pair_apply X c _ _ _ true 1 _ _ d0 d1, pair_apply X c _ _ _ false 1 _ _ c0 c1,
    pair_apply X c _ _ _ true 0 _ _ b0 b1, pair_apply X c _ _ _ false 0 _ _ a0 a1, ← sum_order c]
  have hz : (broadcast S512x512 (Scalar.ofBits (F := Ideal) .f32 0x00000000#32) : FVec Ideal S512x512 .f32) (ix2 i j) = (0 : EReal) := by
    pointwise
  rw [hz]

end Cert.Moe

end
-- ==== Proof.Weights.lean ====
/-
The combining weights at an index over the extended reals.
-/
module

public import proofs.«01_k».proof.Proof.Steps

@[expose] public section

set_option maxRecDepth 16384

noncomputable section

namespace Cert.Moe

open Cert.KernelIdeal Cert.KernelIdeal.Gen
open Idealize.ShloMosaic

/-- The routing score of row `i` for expert `n`. -/
def score (A0 : Vec Ideal S512x256 .bf16) (A1 : Vec Ideal S256x16 .bf16) (i : Fin 512) (n : Fin 16) : EReal :=
  ∑ k : Fin 256, A0 (ix2 i k) * A1 (ix2 k n)

/-- The one-hot mask as a float. -/
theorem mask_value (n e : Fin 16) :
    FloatOps.sitofp (F := Ideal) FTy.f32 (BitVec.setWidth 32 (IntOp.cmpi CmpIPredicate.eq (BitVec.ofNat 32 n.val) (BitVec.ofNat 32 e.val)))
      = (if n = e then 1 else 0 : EReal) := by
  rw [lane_eq n e]
  show (((BitVec.setWidth 32 (if n = e then 1#1 else 0#1)).toInt : ℝ) : EReal) = _
  by_cases h : n = e
  · rw [if_pos h, if_pos h]
    rw [show (BitVec.setWidth 32 1#1).toInt = 1 by decide]; simp
  · rw [if_neg h, if_neg h]
    rw [show (BitVec.setWidth 32 0#1).toInt = 0 by decide]; simp

theorem col0_apply (A2 : Vec Ideal S512x2 .i32) (i : Fin 512) : col0 (F := Ideal) A2 (ix2 i 0) = A2 (ix2 i 0) :=
  congrArg A2 (funext fun a => Fin.ext (by fin_cases a <;> simp [Rect.unit, Rect.toLoadRect, ix2]))
theorem col1_apply (A2 : Vec Ideal S512x2 .i32) (i : Fin 512) : col1 (F := Ideal) A2 (ix2 i 0) = A2 (ix2 i 1) :=
  congrArg A2 (funext fun a => Fin.ext (by fin_cases a <;> simp [Rect.unit, Rect.toLoadRect, ix2]))

theorem wts_apply (A0 : Vec Ideal S512x256 .bf16) (A1 : Vec Ideal S256x16 .bf16) (A2 : Vec Ideal S512x2 .i32) (i : Fin 512) (n e0 e1 : Fin 16)
    (h0 : A2 (ix2 i 0) = BitVec.ofNat 32 e0.val) (h1 : A2 (ix2 i 1) = BitVec.ofNat 32 e1.val) :
    wts A0 A1 A2 (ix2 i n) =
      (if n = e0 then 1 else 0) * Ideal.div (Ideal.exp (score A0 A1 i e0 - max (score A0 A1 i e0) (score A0 A1 i e1)))
        (Ideal.exp (score A0 A1 i e0 - max (score A0 A1 i e0) (score A0 A1 i e1)) + Ideal.exp (score A0 A1 i e1 - max (score A0 A1 i e0) (score A0 A1 i e1)))
      + (if n = e1 then 1 else 0) * Ideal.div (Ideal.exp (score A0 A1 i e1 - max (score A0 A1 i e0) (score A0 A1 i e1)))
        (Ideal.exp (score A0 A1 i e0 - max (score A0 A1 i e0) (score A0 A1 i e1)) + Ideal.exp (score A0 A1 i e1 - max (score A0 A1 i e0) (score A0 A1 i e1))) := by
  have c0 := (col0_apply A2 i).trans h0
  have c1 := (col1_apply A2 i).trans h1
  unfold wts
  generalize col0 (F := Ideal) A2 = u0 at c0
  generalize col1 (F := Ideal) A2 = u1 at c1
  pointwise [k0_pay4, k0_pay3]
  rw [c0, c1]
  simp only [pick, mask_value]
  rfl

theorem xv_apply (A0 : Vec Ideal S512x256 .bf16) : xv A0 = A0 := by
  unfold xv k0_pay5
  exact shapeCast_self _ _

end Cert.Moe

end
-- ==== Proof.Ref.lean ====
/-
The reference's result at an index over the extended reals.
-/
module

public import proofs.«01_k».proof.Proof.Gates
public import proofs.«01_k».proof.Proof.Gen.ReferenceIdeal.Run
public import Idealize.ShloMosaic.Lib.Pointwise
public import Idealize.ShloMosaic.Lib.Pointwise.IndexBridge
public import Idealize.ShloMosaic.Lib.Routing.OpsPair
public import Idealize.ShloMosaic.Lib.StableHlo.Predicate
public import Idealize.ShloMosaic.Lib.Tactic.CleanTypes

@[expose] public section

set_option maxRecDepth 16384

noncomputable section

namespace Cert.Moe

open Cert.ReferenceIdeal Cert.ReferenceIdeal.Gen Cert.ReferenceIdeal.Value
open Idealize.ShloMosaic Idealize.ShloMosaic.TcCoe

/-! ## The two reads by an index word -/

/-- A read of one entry of a table of rows by a row word and a column word. -/
theorem gate_read {α : Type} (P : S2048x16.Idx → α) (idx : IVec S2048x2 32) (t : Fin 2048) (e : Fin 16)
    (h0 : idx (ix2 t 0) = BitVec.ofNat 32 t.val) (h1 : idx (ix2 t 1) = BitVec.ofNat 32 e.val) :
    Host.gather gather_S2048x16_S2048x2_S2048_n_01_n_n_01_1_11 P idx (ix1 t) = P (ix2 t e) := by
  have ht := t.isLt
  have he := e.isLt
  refine congrArg P (funext fun a => Fin.ext ?_)
  have hs : ∀ a : Fin 2, gather_S2048x16_S2048x2_S2048_n_01_n_n_01_1_11.siIdx (ix1 t) a = ix2 t a := fun a =>
    funext fun b => Fin.ext (by fin_cases a <;> fin_cases b <;> rfl)
  fin_cases a
  · show min (idx (gather_S2048x16_S2048x2_S2048_n_01_n_n_01_1_11.siIdx (ix1 t) (0 : Fin 2))).toInt.toNat 2047 + 0 + 0 = t.val
    rw [hs 0, h0, StableHlo.Predicate.toInt_ofNat_small _ (by omega)]
    omega
  · show min (idx (gather_S2048x16_S2048x2_S2048_n_01_n_n_01_1_11.siIdx (ix1 t) (1 : Fin 2))).toInt.toNat 15 + 0 + 0 = e.val
    rw [hs 1, h1, StableHlo.Predicate.toInt_ofNat_small _ (by omega)]
    omega

/-- A read of one whole matrix of a stack by its word. -/
theorem slab_read {α : Type} (W : S16x256x512.Idx → α) (idx : IVec S2048x1 32) (t : Fin 2048) (k : Fin 256) (j : Fin 512) (e : Fin 16)
    (h : idx (ix2 t 0) = BitVec.ofNat 32 e.val) :
    Host.gather gather_S16x256x512_S2048x1_S2048x256x512_12_0_n_n_0_1_1256512 W idx (ix3 t k j) = W (ix3 e k j) := by
  have he := e.isLt
  refine congrArg W (funext fun a => Fin.ext ?_)
  have hs : gather_S16x256x512_S2048x1_S2048x256x512_12_0_n_n_0_1_1256512.siIdx (ix3 t k j) (0 : Fin 1) = ix2 t 0 :=
    funext fun b => Fin.ext (by fin_cases b <;> rfl)
  fin_cases a
  · show min (idx (gather_S16x256x512_S2048x1_S2048x256x512_12_0_n_n_0_1_1256512.siIdx (ix3 t k j) (0 : Fin 1))).toInt.toNat 15 + 0 + 0 = e.val
    rw [hs, h, StableHlo.Predicate.toInt_ofNat_small _ (by omega)]
    omega
  · show 0 + 0 + k.val = k.val
    omega
  · show 0 + 0 + j.val = j.val
    omega

/-! ## The pieces -/

/-- The scores of every token for every expert. -/
def refScores (X : FVec Ideal S2048x256 .bf16) (W : FVec Ideal S256x16 .bf16) : FVec Ideal S2048x16 .f32 :=
  Host.dotGeneral dot_S2048x256_S256x16_S2048x16_1_0_0_1_n_n none (extf .f32 X bitsLt_bf16_f32) (extf .f32 W bitsLt_bf16_f32)

/-- The scores exponentiated relative to their row's largest. -/
def refExps (S : FVec Ideal S2048x16 .f32) : FVec Ideal S2048x16 .f32 :=
  Host.exp (subf S (broadcastInDim S2048x16 ![0, 1] bcast_S2048x1_S2048x16_0_1 (broadcastInDim S2048x1 ![0] bcast_S2048_S2048x1_0
    (Host.reduce FloatOps.maximumf S (constant S_ .f32 0xFF800000#32) reducesTo_S2048x16_S2048_d1 h_S_))))

/-- The rows normalised to sum to one. -/
def refProbs (E : FVec Ideal S2048x16 .f32) : FVec Ideal S2048x16 .f32 :=
  Host.divf E (broadcastInDim S2048x16 ![0, 1] bcast_S2048x1_S2048x16_0_1 (broadcastInDim S2048x1 ![0] bcast_S2048_S2048x1_0
    (Host.reduceAdd E (constant S_ .f32 0x00000000#32) reducesTo_S2048x16_S2048_d1 h_S_)))

/-- A vector of index words, a negative one moved up by `n`, as a column. -/
def refWrap (n : BitVec 32) (v : IVec S2048 32) : IVec S2048x1 32 :=
  broadcastInDim S2048x1 ![0] bcast_S2048_S2048x1_0
    (select (cmpi .slt v (broadcastInDim S2048 ![] bcast_S_S2048 (constantI S_ 32 0#32))) (addi v (broadcastInDim S2048 ![] bcast_S_S2048 (constantI S_ 32 n))) v)

def refCol0 (A : IVec S2048x2 32) : IVec S2048 32 :=
  shapeCast _ (extractStridedSlice S2048x1 ![0, 0] A slices_S2048x2_S2048x1_0_0) shapeCasts_S2048x1_S2048
def refCol1 (A : IVec S2048x2 32) : IVec S2048 32 :=
  shapeCast _ (extractStridedSlice S2048x1 ![0, 1] A slices_S2048x2_S2048x1_0_1) shapeCasts_S2048x1_S2048

/-- The normalised score of each token for the expert its word names. -/
def refGate (P : FVec Ideal S2048x16 .f32) (v : IVec S2048 32) : FVec Ideal S2048 .f32 :=
  Host.gather gather_S2048x16_S2048x2_S2048_n_01_n_n_01_1_11 P (fn_main_v30 (F := Ideal) (refWrap 2048#32 (iotaInDim S2048 32 0)) (refWrap 16#32 v))

/-- Each token through the expert its word names. -/
def refHid (X : FVec Ideal S2048x256 .bf16) (E : FVec Ideal S16x256x512 .bf16) (v : IVec S2048 32) : FVec Ideal S2048x512 .f32 :=
  Host.dotGeneral dot_S2048x256_S2048x256x512_S2048x512_1_1_n_2_0_0 none (extf .f32 X bitsLt_bf16_f32)
    (Host.gather gather_S16x256x512_S2048x1_S2048x256x512_12_0_n_n_0_1_1256512 (extf .f32 E bitsLt_bf16_f32) (refWrap 16#32 v))

/-- A column spread over the result's columns. -/
def refSpread (g : FVec Ideal S2048 .f32) : FVec Ideal S2048x512 .f32 :=
  broadcastInDim S2048x512 ![0, 1] bcast_S2048x1_S2048x512_0_1 (broadcastInDim S2048x1 ![0] bcast_S2048_S2048x1_0 g)

/-- The whole reference. -/
def refOut (X : FVec Ideal S2048x256 .bf16) (W : FVec Ideal S256x16 .bf16) (A : IVec S2048x2 32) (E : FVec Ideal S16x256x512 .bf16) :
    FVec Ideal S2048x512 .f32 :=
  let P := refProbs (refExps (refScores X W))
  let g0 := refGate P (refCol0 A)
  let g1 := refGate P (refCol1 A)
  addf (mulf (refSpread (Host.divf g0 (addf g0 g1))) (refHid X E (refCol0 A))) (mulf (refSpread (Host.divf g1 (addf g0 g1))) (refHid X E (refCol1 A)))

theorem res_eq (m : (ℓ : Loc nD τ sig) → Buf (Elt Ideal) ℓ) (c : Dev nD) :
    res_main_v71 m c = refOut (m ((c.tc : Thread nD τ).loc main_arg0)) (m ((c.tc : Thread nD τ).loc main_arg1))
      (m ((c.tc : Thread nD τ).loc main_arg2)) (m ((c.tc : Thread nD τ).loc main_arg3)) := by
  unfold res_main_v71; rfl

theorem refScores_apply (X : FVec Ideal S2048x256 .bf16) (W : FVec Ideal S256x16 .bf16) (t : Fin 2048) (n : Fin 16) :
    refScores X W (ix2 t n) = ∑ k : Fin 256, X (ix2 t k) * W (ix2 k n) := by
  pointwise [refScores]

theorem refExps_apply (S : FVec Ideal S2048x16 .f32) (t : Fin 2048) (n : Fin 16) :
    refExps S (ix2 t n) = Ideal.exp (S (ix2 t n) - Finset.univ.fold max ⊥ fun k => S (ix2 t k)) := by
  pointwise [refExps]
  rw [show Ideal.ofBits FTy.f32 0xFF800000#32 = (⊥ : EReal) by simp [Ideal.ofBits, Ideal.ieee]]

theorem refProbs_apply (E : FVec Ideal S2048x16 .f32) (t : Fin 2048) (n : Fin 16) :
    refProbs E (ix2 t n) = Ideal.div (E (ix2 t n)) (∑ k, E (ix2 t k)) := by
  pointwise [refProbs]

theorem refWrap_apply (n : BitVec 32) (v : IVec S2048 32) (t : Fin 2048) (e : ℕ) (he : e < 2 ^ 31) (h : v (ix1 t) = BitVec.ofNat 32 e) :
    refWrap n v (ix2 t 0) = BitVec.ofNat 32 e := by
  pointwise [refWrap]
  rw [h]
  exact Routing.wrap_of_lt _ _ (by rw [BitVec.toNat_ofNat]; omega)

theorem refCol0_apply (A : IVec S2048x2 32) (t : Fin 2048) : refCol0 A (ix1 t) = A (ix2 t 0) := by
  pointwise [refCol0]
theorem refCol1_apply (A : IVec S2048x2 32) (t : Fin 2048) : refCol1 A (ix1 t) = A (ix2 t 1) := by
  pointwise [refCol1]

theorem refGate_apply (P : FVec Ideal S2048x16 .f32) (v : IVec S2048 32) (t : Fin 2048) (e : Fin 16) (h : v (ix1 t) = BitVec.ofNat 32 e.val) :
    refGate P v (ix1 t) = P (ix2 t e) := by
  have ht := t.isLt
  have he := e.isLt
  refine gate_read P _ t e ?_ ?_
  · have hw := refWrap_apply 2048#32 (iotaInDim S2048 32 0) t t.val (by omega) rfl
    generalize refWrap 2048#32 (iotaInDim S2048 32 0) = a at hw
    generalize refWrap 16#32 v = b
    rw [← hw]
    pointwise [fn_main_v30]
  · have hw := refWrap_apply 16#32 v t e.val (by omega) h
    generalize refWrap 2048#32 (iotaInDim S2048 32 0) = a
    generalize refWrap 16#32 v = b at hw
    rw [← hw]
    pointwise [fn_main_v30]

theorem refHid_apply (X : FVec Ideal S2048x256 .bf16) (E : FVec Ideal S16x256x512 .bf16) (v : IVec S2048 32) (t : Fin 2048) (j : Fin 512) (e : Fin 16)
    (h : v (ix1 t) = BitVec.ofNat 32 e.val) : refHid X E v (ix2 t j) = ∑ k : Fin 256, X (ix2 t k) * E (ix3 e k j) := by
  have he := e.isLt
  have hw := refWrap_apply 16#32 v t e.val (by omega) h
  have hr : ∀ k : Fin 256, Host.gather gather_S16x256x512_S2048x1_S2048x256x512_12_0_n_n_0_1_1256512 (extf .f32 E bitsLt_bf16_f32) (refWrap 16#32 v) (ix3 t k j)
      = E (ix3 e k j) := fun k => slab_read _ _ t k j e hw
  unfold refHid
  generalize Host.gather gather_S16x256x512_S2048x1_S2048x256x512_12_0_n_n_0_1_1256512 (extf .f32 E bitsLt_bf16_f32) (refWrap 16#32 v) = G at hr
  pointwise
  exact Finset.sum_congr rfl fun k _ => by rw [hr k]

/-- The reference's value at one index, when the row's two words name experts and the scores are real. -/
theorem refOut_apply (X : FVec Ideal S2048x256 .bf16) (W : FVec Ideal S256x16 .bf16) (A : IVec S2048x2 32) (E : FVec Ideal S16x256x512 .bf16)
    (t : Fin 2048) (j : Fin 512) (e0 e1 : Fin 16) (h0 : A (ix2 t 0) = BitVec.ofNat 32 e0.val) (h1 : A (ix2 t 1) = BitVec.ofNat 32 e1.val)
    (s : Fin 16 → ℝ) (hs : ∀ n, ∑ k : Fin 256, X (ix2 t k) * W (ix2 k n) = (s n : EReal)) :
    refOut X W A E (ix2 t j) = (shareR (s e0) (s e1) : EReal) * (∑ k : Fin 256, X (ix2 t k) * E (ix3 e0 k j))
      + (shareR (s e1) (s e0) : EReal) * (∑ k : Fin 256, X (ix2 t k) * E (ix3 e1 k j)) := by
  have c0 := (refCol0_apply A t).trans h0
  have c1 := (refCol1_apply A t).trans h1
  obtain ⟨M, hM⟩ := max_coe s
  have hp : ∀ e, refProbs (refExps (refScores X W)) (ix2 t e) = soft (fun k => (s k : EReal)) (M : EReal) e := fun e => by
    rw [refProbs_apply]
    simp only [refExps_apply, refScores_apply, hs, hM]
    rfl
  have g0 := (refGate_apply (refProbs (refExps (refScores X W))) _ t e0 c0).trans (hp e0)
  have g1 := (refGate_apply (refProbs (refExps (refScores X W))) _ t e1 c1).trans (hp e1)
  have d0 := refHid_apply X E _ t j e0 c0
  have d1 := refHid_apply X E _ t j e1 c1
  rw [← d0, ← d1, ← ratio_coe s M e0 e1, ← ratio_coe' s M e0 e1, ← g0, ← g1]
  unfold refOut
  generalize refProbs (refExps (refScores X W)) = P
  generalize refGate P (refCol0 A) = u0
  generalize refGate P (refCol1 A) = u1
  generalize refHid X E (refCol0 A) = q0
  generalize refHid X E (refCol1 A) = q1
  pointwise [refSpread]

end Cert.Moe

end
-- ==== Proof.Value.lean ====
/-
The value claim: each device's rows of the result are the reference's rows.
-/
module

public import proofs.«01_k».proof.Defs
public import proofs.«01_k».proof.Proof.Launch
public import proofs.«01_k».proof.Proof.Weights
public import proofs.«01_k».proof.Proof.Routed
public import proofs.«01_k».proof.Proof.Ref

@[expose] public section

set_option maxRecDepth 16384

noncomputable section

namespace Cert.Moe

open Idealize.ShloMosaic Idealize.ShloMosaic.TcCoe Idealize.SL.Sem
open Cert.KernelIdeal Cert.KernelIdeal.Gen

/-! ## The buffers at the run's two ends -/

section Ends
variable {F : FTy → Type} [FloatOps F] (m : (ℓ : Loc nD τ sig) → Buf (Elt F) ℓ) (ρ : Dev nD → PrngReg) (c : Dev nD)

theorem in0_eq : in0 m ρ c = m ((c.tc : Thread nD τ).loc main_arg0) :=
  Memref.read_access_unit_zero (Elt F) main_arg0 (funext fun a => by fin_cases a <;> decide) (fun a => by fin_cases a <;> decide) _
theorem in1_eq : in1 m ρ c = m ((c.tc : Thread nD τ).loc main_arg1) :=
  Memref.read_access_unit_zero (Elt F) main_arg1 (funext fun a => by fin_cases a <;> decide) (fun a => by fin_cases a <;> decide) _
theorem in2_eq : in2 m ρ c = m ((c.tc : Thread nD τ).loc main_arg2) :=
  Memref.read_access_unit_zero (Elt F) main_arg2 (funext fun a => by fin_cases a <;> decide) (fun a => by fin_cases a <;> decide) _
theorem in3_eq : in3 m ρ c = m ((c.tc : Thread nD τ).loc main_arg3) :=
  Memref.read_access_unit_zero (Elt F) main_arg3 (funext fun a => by fin_cases a <;> decide) (fun a => by fin_cases a <;> decide) _

/-- The result buffer ends holding the computed rows. -/
theorem finalA_4 : finalA m ρ c (4 : Fin 5) = res m ρ c := by
  have h : (win0_4.blk t0_0).view.read (Elt F) (finalA m ρ c (4 : Fin 5)) = res m ρ c := by
    unfold finalA
    rw [show cfg0.N = (t0_0 : Fin cfg0.N).val + 1 from rfl, (dats m ρ 0 c).arrAt_succ (4 : Fin 5) t0_0]
    rw [show (cfg0.win (4 : Fin 5)).flush t0_0 = true from by decide, if_pos rfl]
    exact View.read_write_univ _ _
  rw [← h]
  exact (Memref.read_access_unit_zero (Elt F) main_v1 (funext fun a => by fin_cases a <;> decide) (fun a => by fin_cases a <;> decide) _).symm

end Ends

/-! ## The kernel's rows -/

/-- The kernel's value at one index, when the row's two words name experts and the row's scores are real. -/
theorem out_value (X : Wts Ideal) (c : Dev nD) (A0 : Vec Ideal S512x256 .bf16) (A1 : Vec Ideal S256x16 .bf16) (A2 : Vec Ideal S512x2 .i32)
    (i : Fin 512) (j : Fin 512) (e0 e1 : Fin 16) (h0 : A2 (ix2 i 0) = BitVec.ofNat 32 e0.val) (h1 : A2 (ix2 i 1) = BitVec.ofNat 32 e1.val)
    (s : Fin 16 → ℝ) (hs : ∀ n, score A0 A1 i n = (s n : EReal)) :
    out X c A0 A1 A2 (ix2 i j) = (shareR (s e0) (s e1) : EReal) * (∑ k : Fin 256, A0 (ix2 i k) * wAll X e0 k j)
      + (shareR (s e1) (s e0) : EReal) * (∑ k : Fin 256, A0 (ix2 i k) * wAll X e1 k j) := by
  rw [out_apply, ← sum_two _ _ (shareR_nonneg _ _) (shareR_nonneg _ _) e0 e1 (fun n => ∑ k : Fin 256, A0 (ix2 i k) * wAll X n k j)]
  refine Finset.sum_congr rfl fun n _ => ?_
  unfold part
  rw [wts_apply A0 A1 A2 i n e0 e1 h0 h1, xv_apply, hs, hs]
  have hm : max (s e0 : EReal) (s e1 : EReal) = ((max (s e0) (s e1) : ℝ) : EReal) := by
    rcases le_total (s e0) (s e1) with h | h
    · rw [max_eq_right h, max_eq_right (EReal.coe_le_coe_iff.2 h)]
    · rw [max_eq_left h, max_eq_left (EReal.coe_le_coe_iff.2 h)]
  rw [hm]
  have a := share_coe (s e0) (s e1) (max (s e0) (s e1))
  have b := share_coe (s e1) (s e0) (max (s e0) (s e1))
  unfold share at a b
  rw [a, add_comm (Ideal.exp ((s e0 : EReal) - _)), b]

/-! ## The rows in the whole arrays -/

section Rows
variable (c : Fin 4)

/-- Row `i` of device `c` in the whole array. -/
def gRow (i : Fin 512) : Fin 2048 := ⟨c.val * 512 + i.val, by have := c.isLt; have := i.isLt; omega⟩

theorem block_x (v : (⟨2, ![2048, 256]⟩ : Shape).Idx → EReal) (i : Fin 512) (k : Fin 256) :
    (Layout.block ⟨2, ![512, 256]⟩ ⟨2, ![2048, 256]⟩ 0 4 c v) (ix2 i k) = v (ix2 (gRow c i) k) :=
  congrArg v (funext fun a => Fin.ext (by fin_cases a <;> rfl))

theorem block_idx (v : (⟨2, ![2048, 2]⟩ : Shape).Idx → BitVec 32) (i : Fin 512) (k : Fin 2) :
    (Layout.block ⟨2, ![512, 2]⟩ ⟨2, ![2048, 2]⟩ 0 4 c v) (ix2 i k) = v (ix2 (gRow c i) k) :=
  congrArg v (funext fun a => Fin.ext (by fin_cases a <;> rfl))

theorem block_out (v : (⟨2, ![2048, 512]⟩ : Shape).Idx → EReal) (i : Fin 512) (k : Fin 512) :
    (Layout.block ⟨2, ![512, 512]⟩ ⟨2, ![2048, 512]⟩ 0 4 c v) (ix2 i k) = v (ix2 (gRow c i) k) :=
  congrArg v (funext fun a => Fin.ext (by fin_cases a <;> rfl))

end Rows

/-- The experts that the devices hold, together, are the whole array's. -/
theorem wAll_whole (X : Wts Ideal) (E : (⟨3, ![16, 256, 512]⟩ : Shape).Idx → EReal)
    (h : ∀ c : Fin 4, X c = Layout.block ⟨3, ![4, 256, 512]⟩ ⟨3, ![16, 256, 512]⟩ 0 4 c E) (n : Fin 16) (k : Fin 256) (j : Fin 512) :
    wAll X n k j = E (ix3 n k j) := by
  unfold wAll
  rw [h]
  refine congrArg E (funext fun a => Fin.ext ?_)
  fin_cases a
  · show n.val / 4 * 4 + n.val % 4 = n.val
    omega
  · rfl
  · rfl

/-! ## The claim -/

theorem algebraic : Cert.algebraic_KernelIdeal_ReferenceIdeal_pre_routed_KernelIdeal (hPre_routed_KernelIdeal := preFactsK) := by
  letI := preFactsK
  intro m ρ m' ρ' hpre hagree
  refine ⟨Cert.ReferenceIdeal.Value.res_main_v71 (F := Ideal) m' 0, ?_, ?_⟩
  · refine (θ_run defs _ _).mono (fun r h c => ⟨(h.1 c (4 : Fin 5)).trans ?_, (h.1 c (0 : Fin 5)).trans (finalA_0 m ρ c), (h.1 c (1 : Fin 5)).trans (finalA_1 m ρ c),
      (h.1 c (2 : Fin 5)).trans (finalA_2 m ρ c), (h.1 c (3 : Fin 5)).trans (finalA_3 m ρ c)⟩) (run_main (F := Ideal) m ρ)
    obtain ⟨hx, hw, hi⟩ := routed_facts _ _ _ _ (hpre c)
    obtain ⟨a0, a1, a2, -⟩ := hagree c
    have hX := wAll_whole (fun c => m ((c.tc : Thread nD τ).loc main_arg3)) _ fun c => (hagree c).2.2.2
    rw [finalA_4, res_eq]
    unfold res
    rw [in0_eq, in1_eq, in2_eq, show in3 m ρ = fun c : Dev nD => m ((c.tc : Thread nD τ).loc main_arg3) from funext fun c => in3_eq m ρ c]
    funext ij
    obtain ⟨i, j, rfl⟩ : ∃ (i : Fin 512) (j : Fin 512), ij = ix2 i j := ⟨ij 0, ij 1, funext fun a => by fin_cases a <;> rfl⟩
    obtain ⟨e0, h0⟩ := hi i 0
    obtain ⟨e1, h1⟩ := hi i 1
    choose s hs using fun n => dot_coe _ _ (hx i) (fun k => hw k n)
    refine (out_value _ c _ _ _ i j e0 e1 h0 h1 s hs).trans ?_
    rw [block_out]
    have x := fun k => (congrFun a0 (ix2 i k)).trans (block_x c _ i k)
    refine Eq.symm ((refOut_apply _ _ _ _ (gRow c i) j e0 e1 ?_ ?_ s ?_).trans ?_)
    · exact ((congrFun a2 (ix2 i 0)).trans (block_idx c _ i 0)).symm.trans h0
    · exact ((congrFun a2 (ix2 i 1)).trans (block_idx c _ i 1)).symm.trans h1
    · intro n
      rw [← hs n, ← a1]
      exact Finset.sum_congr rfl fun k _ => by rw [x k]
    · simp only [hX, x]
  · exact (θ_run Cert.ReferenceIdeal.defs _ _).mono (fun _ h => h 0) (Cert.ReferenceIdeal.Value.run (F := Ideal) m' ρ')

end Cert.Moe

end
-- ==== Proof.lean ====
/-
The certificate: the frames, the rewriting of no operation, and the value claim.
-/
module

public import proofs.«01_k».proof.Defs
public import proofs.«01_k».proof.Proof.Frames
public import proofs.«01_k».proof.Proof.Value
public import proofs.«01_k».proof.Proof.Gen.Kernel

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Moe.preFactsK, Cert.Moe.preFactsR,
    Cert.Moe.frame_kernel, Cert.Moe.frame_kernelIdeal, Cert.Moe.frame_kernelIdeal_routed,
    Cert.Moe.frame_referenceIdeal, Cert.Moe.frame_referenceIdeal_routed, trivial, Cert.Moe.algebraic⟩

end Cert.Proof

end
